-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_values) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S64x32x32768 : Shape := ⟨3, ![64, 32, 32768]⟩
abbrev S2048x32768 : Shape := ⟨2, ![2048, 32768]⟩
abbrev S2048x8192 : Shape := ⟨2, ![2048, 8192]⟩
abbrev S32768 : Shape := ⟨1, ![32768]⟩
abbrev S32784 : Shape := ⟨1, ![32784]⟩
abbrev S4096 : Shape := ⟨1, ![4096]⟩
abbrev S8192 : Shape := ⟨1, ![8192]⟩
abbrev S_ : Shape := ⟨0, ![]⟩
abbrev S16 : Shape := ⟨1, ![16]⟩
abbrev S1x32768 : Shape := ⟨2, ![1, 32768]⟩
abbrev S1x8192 : Shape := ⟨2, ![1, 8192]⟩
abbrev S64x32x8192 : Shape := ⟨3, ![64, 32, 8192]⟩

abbrev nBuf : Table → Nat
  | .hbm => 4
  | .local .scVector .vmem => 6
  | _ => 0

abbrev bufTy : (tb : Table) → Fin (nBuf tb) → BufTy
  | .hbm, ⟨0, _⟩ => ⟨S64x32x32768, .f32⟩
  | .hbm, ⟨1, _⟩ => ⟨S2048x32768, .f32⟩
  | .hbm, ⟨2, _⟩ => ⟨S2048x8192, .f32⟩
  | .hbm, ⟨3, _⟩ => ⟨S64x32x8192, .f32⟩
  | .local .scVector .vmem, ⟨0, _⟩ => ⟨S32768, .f32⟩
  | .local .scVector .vmem, ⟨1, _⟩ => ⟨S32784, .i32⟩
  | .local .scVector .vmem, ⟨2, _⟩ => ⟨S32784, .i32⟩
  | .local .scVector .vmem, ⟨3, _⟩ => ⟨S4096, .i32⟩
  | .local .scVector .vmem, ⟨4, _⟩ => ⟨S4096, .i32⟩
  | .local .scVector .vmem, ⟨5, _⟩ => ⟨S8192, .f32⟩
  | _, _ => ⟨S64x32x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_1 : BitVec 32 := 0#32
  let c64_i32 : BitVec 32 := 64#32
  let v6 : BitVec 32 := Scalar.addi c0_i32_1 c64_i32
  let c1_i32_2 : BitVec 32 := 1#32
  ⟨c0_i32_1, v6, c1_i32_2⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_4 : BitVec 32 := 64#32
  let v8 : BitVec 32 := Scalar.muli v1 c64_i32_4
  let c0_i32_1 : BitVec 32 := 0#32
  let c1_i32_2 : BitVec 32 := 1#32
  let arg11 : BitVec 32 := Scf.iv c0_i32_1 c1_i32_2 k0_t1
  let v9 : BitVec 32 := Scalar.addi v8 arg11
  let c0_i32_117_r0 : BitVec 32 := 0#32
  ![v9.toNat, 0]
@[reducible] def k0_t2_loop : Scf.Loop 32 :=
  let c0_i32_6 : BitVec 32 := 0#32
  let c256_i32 : BitVec 32 := 256#32
  let v10 : BitVec 32 := Scalar.addi c0_i32_6 c256_i32
  let c1_i32_7 : BitVec 32 := 1#32
  ⟨c0_i32_6, v10, c1_i32_7⟩
def k0_off2 (k0_t2 : Fin k0_t2_loop.trips) : Fin 1 → Nat :=
  let c0_i32_6 : BitVec 32 := 0#32
  let c1_i32_7 : BitVec 32 := 1#32
  let arg13 : BitVec 32 := Scf.iv c0_i32_6 c1_i32_7 k0_t2
  let c16_i32_117 : BitVec 32 := 16#32
  let v113 : BitVec 32 := Scalar.muli arg13 c16_i32_117
  let v114 : Index := Scalar.indexCast v113
  ![v114.toNat]
@[reducible] def k0_t3_loop : Scf.Loop 32 :=
  let c0_i32_10 : BitVec 32 := 0#32
  let c2048_i32 : BitVec 32 := 2048#32
  let v12 : BitVec 32 := Scalar.addi c0_i32_10 c2048_i32
  let c1_i32_11 : BitVec 32 := 1#32
  ⟨c0_i32_10, v12, c1_i32_11⟩
def k0_off3 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c16_i32_117 : BitVec 32 := 16#32
  let v113 : BitVec 32 := Scalar.muli arg13 c16_i32_117
  let v114 : Index := Scalar.indexCast v113
  ![v114.toNat]

def k0_chk1 (v127 : IVec S16 32) : Prop :=
  (∀ a x, ((![v127] : Fin 1 → IVec S16 32) a x).toNat < S4096.size a)
theorem k0_idx1_inb : ∀ (v127 : IVec S16 32) (k0_hw1 : k0_chk1 v127), ∀ a x, ((![v127] : Fin 1 → IVec S16 32) a x).toNat < S4096.size a := fun v127 k0_hw1 => k0_hw1
@[reducible] def k0_t4_loop : Scf.Loop 32 :=
  let c0_i32_15 : BitVec 32 := 0#32
  let c256_i32_16 : BitVec 32 := 256#32
  let v14 : BitVec 32 := Scalar.addi c0_i32_15 c256_i32_16
  let c1_i32_17 : BitVec 32 := 1#32
  ⟨c0_i32_15, v14, c1_i32_17⟩
def k0_off4 (k0_t4 : Fin k0_t4_loop.trips) : Fin 1 → Nat :=
  let c0_i32_15 : BitVec 32 := 0#32
  let c1_i32_17 : BitVec 32 := 1#32
  let arg13 : BitVec 32 := Scf.iv c0_i32_15 c1_i32_17 k0_t4
  let c16_i32_117 : BitVec 32 := 16#32
  let v113 : BitVec 32 := Scalar.muli arg13 c16_i32_117
  let v114 : Index := Scalar.indexCast v113
  ![v114.toNat]
@[reducible] def k0_t5_loop : Scf.Loop 32 :=
  let c0_i32_20 : BitVec 32 := 0#32
  let c2048_i32_21 : BitVec 32 := 2048#32
  let v16 : BitVec 32 := Scalar.addi c0_i32_20 c2048_i32_21
  let c1_i32_22 : BitVec 32 := 1#32
  ⟨c0_i32_20, v16, c1_i32_22⟩
def k0_off5 (k0_t5 : Fin k0_t5_loop.trips) : Fin 1 → Nat :=
  let c0_i32_20 : BitVec 32 := 0#32
  let c1_i32_22 : BitVec 32 := 1#32
  let arg13 : BitVec 32 := Scf.iv c0_i32_20 c1_i32_22 k0_t5
  let c16_i32_117 : BitVec 32 := 16#32
  let v113 : BitVec 32 := Scalar.muli arg13 c16_i32_117
  let v114 : Index := Scalar.indexCast v113
  ![v114.toNat]

def k0_chk2 (v132 : IVec S16 32) : Prop :=
  (∀ a x, ((![v132] : Fin 1 → IVec S16 32) a x).toNat < S32784.size a)
theorem k0_idx2_inb : ∀ (v132 : IVec S16 32) (k0_hw2 : k0_chk2 v132), ∀ a x, ((![v132] : Fin 1 → IVec S16 32) a x).toNat < S32784.size a := fun v132 k0_hw2 => k0_hw2
def k0_off6 (v17 : BitVec 32) : Fin 1 → Nat :=
  let v18 : Index := Scalar.indexCast v17
  ![v18.toNat]

@[reducible] def k0_t6_loop : Scf.Loop 32 :=
  let c0_i32_33 : BitVec 32 := 0#32
  let c256_i32_34 : BitVec 32 := 256#32
  let v39 : BitVec 32 := Scalar.addi c0_i32_33 c256_i32_34
  let c1_i32_35 : BitVec 32 := 1#32
  ⟨c0_i32_33, v39, c1_i32_35⟩
def k0_off7 (k0_t6 : Fin k0_t6_loop.trips) : Fin 1 → Nat :=
  let c0_i32_33 : BitVec 32 := 0#32
  let c1_i32_35 : BitVec 32 := 1#32
  let arg13 : BitVec 32 := Scf.iv c0_i32_33 c1_i32_35 k0_t6
  let c16_i32_117 : BitVec 32 := 16#32
  let v113 : BitVec 32 := Scalar.muli arg13 c16_i32_117
  let v114 : Index := Scalar.indexCast v113
  ![v114.toNat]
@[reducible] def k0_t7_loop (v17 : BitVec 32) : Scf.Loop 32 :=
  let c0_i32_37 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v41 : BitVec 32 := Scalar.subi v38 c0_i32_37
  let c1_i32_39 : BitVec 32 := 1#32
  let v43 : BitVec 32 := Scalar.divsi v41 c1_i32_39
  let v44 : BitVec 32 := Scalar.muli v43 c1_i32_39
  let v45 : BitVec 32 := Scalar.addi c0_i32_37 v44
  let c1_i32_40 : BitVec 32 := 1#32
  ⟨c0_i32_37, v45, c1_i32_40⟩

def k0_chk4 (v116 : IVec S16 32) : Prop :=
  (∀ a x, ((![v116] : Fin 1 → IVec S16 32) a x).toNat < S32784.size a)
theorem k0_idx3_inb : ∀ (v116 : IVec S16 32) (k0_hw4 : k0_chk4 v116), ∀ a x, ((![v116] : Fin 1 → IVec S16 32) a x).toNat < S32784.size a := fun v116 k0_hw4 => k0_hw4

def k0_chk5 (v124 : IVec S16 32) : Prop :=
  (∀ a x, ((![v124] : Fin 1 → IVec S16 32) a x).toNat < S4096.size a)
theorem k0_idx4_inb : ∀ (v124 : IVec S16 32) (k0_hw5 : k0_chk5 v124), ∀ a x, ((![v124] : Fin 1 → IVec S16 32) a x).toNat < S4096.size a := fun v124 k0_hw5 => k0_hw5
@[reducible] def k0_t8_loop (v17 : BitVec 32) : Scf.Loop 32 :=
  let c0_i32_37 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v41 : BitVec 32 := Scalar.subi v38 c0_i32_37
  let c1_i32_39 : BitVec 32 := 1#32
  let v43 : BitVec 32 := Scalar.divsi v41 c1_i32_39
  let v44 : BitVec 32 := Scalar.muli v43 c1_i32_39
  let v45 : BitVec 32 := Scalar.addi c0_i32_37 v44
  let v42 : BitVec 32 := Scalar.addi c0_i32_37 v41
  let c1_i32_41 : BitVec 32 := 1#32
  ⟨v45, v42, c1_i32_41⟩

def k0_chk6 (v116 : IVec S16 32) : Prop :=
  (∀ a x, ((![v116] : Fin 1 → IVec S16 32) a x).toNat < S32784.size a)
theorem k0_idx5_inb : ∀ (v116 : IVec S16 32) (k0_hw6 : k0_chk6 v116), ∀ a x, ((![v116] : Fin 1 → IVec S16 32) a x).toNat < S32784.size a := fun v116 k0_hw6 => k0_hw6

def k0_chk7 (v124 : IVec S16 32) : Prop :=
  (∀ a x, ((![v124] : Fin 1 → IVec S16 32) a x).toNat < S4096.size a)
theorem k0_idx6_inb : ∀ (v124 : IVec S16 32) (k0_hw7 : k0_chk7 v124), ∀ a x, ((![v124] : Fin 1 → IVec S16 32) a x).toNat < S4096.size a := fun v124 k0_hw7 => k0_hw7
@[reducible] def k0_t9_loop : Scf.Loop 32 :=
  let c0_i32_43 : BitVec 32 := 0#32
  let c256_i32_44 : BitVec 32 := 256#32
  let v48 : BitVec 32 := Scalar.addi c0_i32_43 c256_i32_44
  let c1_i32_45 : BitVec 32 := 1#32
  ⟨c0_i32_43, v48, c1_i32_45⟩
def k0_off8 (k0_t9 : Fin k0_t9_loop.trips) : Fin 1 → Nat :=
  let c0_i32_43 : BitVec 32 := 0#32
  let c1_i32_45 : BitVec 32 := 1#32
  let arg13 : BitVec 32 := Scf.iv c0_i32_43 c1_i32_45 k0_t9
  let c16_i32_117 : BitVec 32 := 16#32
  let v113 : BitVec 32 := Scalar.muli arg13 c16_i32_117
  let v114 : Index := Scalar.indexCast v113
  ![v114.toNat]
@[reducible] def k0_t10_loop (v17 : BitVec 32) : Scf.Loop 32 :=
  let c0_i32_47 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v50 : BitVec 32 := Scalar.subi v38 c0_i32_47
  let c1_i32_49 : BitVec 32 := 1#32
  let v52 : BitVec 32 := Scalar.divsi v50 c1_i32_49
  let v53 : BitVec 32 := Scalar.muli v52 c1_i32_49
  let v54 : BitVec 32 := Scalar.addi c0_i32_47 v53
  let c1_i32_50 : BitVec 32 := 1#32
  ⟨c0_i32_47, v54, c1_i32_50⟩

def k0_chk8 (v116 : IVec S16 32) : Prop :=
  (∀ a x, ((![v116] : Fin 1 → IVec S16 32) a x).toNat < S32784.size a)
theorem k0_idx7_inb : ∀ (v116 : IVec S16 32) (k0_hw8 : k0_chk8 v116), ∀ a x, ((![v116] : Fin 1 → IVec S16 32) a x).toNat < S32784.size a := fun v116 k0_hw8 => k0_hw8

def k0_chk10 (v125 : IVec S16 32) : Prop :=
  (∀ a x, ((![v125] : Fin 1 → IVec S16 32) a x).toNat < S32784.size a)
theorem k0_idx9_inb : ∀ (v125 : IVec S16 32) (k0_hw10 : k0_chk10 v125), ∀ a x, ((![v125] : Fin 1 → IVec S16 32) a x).toNat < S32784.size a := fun v125 k0_hw10 => k0_hw10

def k0_chk9 (v124 : IVec S16 32) : Prop :=
  (∀ a x, ((![v124] : Fin 1 → IVec S16 32) a x).toNat < S4096.size a) ∧
  (∀ a x, ((![v124] : Fin 1 → IVec S16 32) a x).toNat < S4096.size a)
theorem k0_idx8_inb : ∀ (v124 : IVec S16 32) (k0_hw9 : k0_chk9 v124), ∀ a x, ((![v124] : Fin 1 → IVec S16 32) a x).toNat < S4096.size a := fun v124 k0_hw9 => k0_hw9.1
theorem k0_idx10_inb : ∀ (v124 : IVec S16 32) (k0_hw9 : k0_chk9 v124), ∀ a x, ((![v124] : Fin 1 → IVec S16 32) a x).toNat < S4096.size a := fun v124 k0_hw9 => k0_hw9.2
@[reducible] def k0_t11_loop (v17 : BitVec 32) : Scf.Loop 32 :=
  let c0_i32_47 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v50 : BitVec 32 := Scalar.subi v38 c0_i32_47
  let c1_i32_49 : BitVec 32 := 1#32
  let v52 : BitVec 32 := Scalar.divsi v50 c1_i32_49
  let v53 : BitVec 32 := Scalar.muli v52 c1_i32_49
  let v54 : BitVec 32 := Scalar.addi c0_i32_47 v53
  let v51 : BitVec 32 := Scalar.addi c0_i32_47 v50
  let c1_i32_51 : BitVec 32 := 1#32
  ⟨v54, v51, c1_i32_51⟩

def k0_chk11 (v116 : IVec S16 32) : Prop :=
  (∀ a x, ((![v116] : Fin 1 → IVec S16 32) a x).toNat < S32784.size a)
theorem k0_idx11_inb : ∀ (v116 : IVec S16 32) (k0_hw11 : k0_chk11 v116), ∀ a x, ((![v116] : Fin 1 → IVec S16 32) a x).toNat < S32784.size a := fun v116 k0_hw11 => k0_hw11

def k0_chk13 (v125 : IVec S16 32) : Prop :=
  (∀ a x, ((![v125] : Fin 1 → IVec S16 32) a x).toNat < S32784.size a)
theorem k0_idx13_inb : ∀ (v125 : IVec S16 32) (k0_hw13 : k0_chk13 v125), ∀ a x, ((![v125] : Fin 1 → IVec S16 32) a x).toNat < S32784.size a := fun v125 k0_hw13 => k0_hw13

def k0_chk12 (v124 : IVec S16 32) : Prop :=
  (∀ a x, ((![v124] : Fin 1 → IVec S16 32) a x).toNat < S4096.size a) ∧
  (∀ a x, ((![v124] : Fin 1 → IVec S16 32) a x).toNat < S4096.size a)
theorem k0_idx12_inb : ∀ (v124 : IVec S16 32) (k0_hw12 : k0_chk12 v124), ∀ a x, ((![v124] : Fin 1 → IVec S16 32) a x).toNat < S4096.size a := fun v124 k0_hw12 => k0_hw12.1
theorem k0_idx14_inb : ∀ (v124 : IVec S16 32) (k0_hw12 : k0_chk12 v124), ∀ a x, ((![v124] : Fin 1 → IVec S16 32) a x).toNat < S4096.size a := fun v124 k0_hw12 => k0_hw12.2
@[reducible] def k0_t12_loop : Scf.Loop 32 :=
  let c0_i32_53 : BitVec 32 := 0#32
  let c256_i32_54 : BitVec 32 := 256#32
  let v57 : BitVec 32 := Scalar.addi c0_i32_53 c256_i32_54
  let c1_i32_55 : BitVec 32 := 1#32
  ⟨c0_i32_53, v57, c1_i32_55⟩
def k0_off9 (k0_t12 : Fin k0_t12_loop.trips) : Fin 1 → Nat :=
  let c0_i32_53 : BitVec 32 := 0#32
  let c1_i32_55 : BitVec 32 := 1#32
  let arg13 : BitVec 32 := Scf.iv c0_i32_53 c1_i32_55 k0_t12
  let c16_i32_117 : BitVec 32 := 16#32
  let v113 : BitVec 32 := Scalar.muli arg13 c16_i32_117
  let v114 : Index := Scalar.indexCast v113
  ![v114.toNat]
@[reducible] def k0_t13_loop (v17 : BitVec 32) : Scf.Loop 32 :=
  let c0_i32_57 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v59 : BitVec 32 := Scalar.subi v38 c0_i32_57
  let c1_i32_59 : BitVec 32 := 1#32
  let v61 : BitVec 32 := Scalar.divsi v59 c1_i32_59
  let v62 : BitVec 32 := Scalar.muli v61 c1_i32_59
  let v63 : BitVec 32 := Scalar.addi c0_i32_57 v62
  let c1_i32_60 : BitVec 32 := 1#32
  ⟨c0_i32_57, v63, c1_i32_60⟩

def k0_chk14 (v116 : IVec S16 32) : Prop :=
  (∀ a x, ((![v116] : Fin 1 → IVec S16 32) a x).toNat < S32784.size a)
theorem k0_idx15_inb : ∀ (v116 : IVec S16 32) (k0_hw14 : k0_chk14 v116), ∀ a x, ((![v116] : Fin 1 → IVec S16 32) a x).toNat < S32784.size a := fun v116 k0_hw14 => k0_hw14

def k0_chk15 (v124 : IVec S16 32) : Prop :=
  (∀ a x, ((![v124] : Fin 1 → IVec S16 32) a x).toNat < S4096.size a)
theorem k0_idx16_inb : ∀ (v124 : IVec S16 32) (k0_hw15 : k0_chk15 v124), ∀ a x, ((![v124] : Fin 1 → IVec S16 32) a x).toNat < S4096.size a := fun v124 k0_hw15 => k0_hw15
@[reducible] def k0_t14_loop (v17 : BitVec 32) : Scf.Loop 32 :=
  let c0_i32_57 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v59 : BitVec 32 := Scalar.subi v38 c0_i32_57
  let c1_i32_59 : BitVec 32 := 1#32
  let v61 : BitVec 32 := Scalar.divsi v59 c1_i32_59
  let v62 : BitVec 32 := Scalar.muli v61 c1_i32_59
  let v63 : BitVec 32 := Scalar.addi c0_i32_57 v62
  let v60 : BitVec 32 := Scalar.addi c0_i32_57 v59
  let c1_i32_61 : BitVec 32 := 1#32
  ⟨v63, v60, c1_i32_61⟩

def k0_chk16 (v116 : IVec S16 32) : Prop :=
  (∀ a x, ((![v116] : Fin 1 → IVec S16 32) a x).toNat < S32784.size a)
theorem k0_idx17_inb : ∀ (v116 : IVec S16 32) (k0_hw16 : k0_chk16 v116), ∀ a x, ((![v116] : Fin 1 → IVec S16 32) a x).toNat < S32784.size a := fun v116 k0_hw16 => k0_hw16

def k0_chk17 (v124 : IVec S16 32) : Prop :=
  (∀ a x, ((![v124] : Fin 1 → IVec S16 32) a x).toNat < S4096.size a)
theorem k0_idx18_inb : ∀ (v124 : IVec S16 32) (k0_hw17 : k0_chk17 v124), ∀ a x, ((![v124] : Fin 1 → IVec S16 32) a x).toNat < S4096.size a := fun v124 k0_hw17 => k0_hw17
@[reducible] def k0_t15_loop : Scf.Loop 32 :=
  let c0_i32_63 : BitVec 32 := 0#32
  let c256_i32_64 : BitVec 32 := 256#32
  let v66 : BitVec 32 := Scalar.addi c0_i32_63 c256_i32_64
  let c1_i32_65 : BitVec 32 := 1#32
  ⟨c0_i32_63, v66, c1_i32_65⟩
def k0_off10 (k0_t15 : Fin k0_t15_loop.trips) : Fin 1 → Nat :=
  let c0_i32_63 : BitVec 32 := 0#32
  let c1_i32_65 : BitVec 32 := 1#32
  let arg13 : BitVec 32 := Scf.iv c0_i32_63 c1_i32_65 k0_t15
  let c16_i32_117 : BitVec 32 := 16#32
  let v113 : BitVec 32 := Scalar.muli arg13 c16_i32_117
  let v114 : Index := Scalar.indexCast v113
  ![v114.toNat]
@[reducible] def k0_t16_loop (v17 : BitVec 32) : Scf.Loop 32 :=
  let c0_i32_67 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v68 : BitVec 32 := Scalar.subi v38 c0_i32_67
  let c1_i32_69 : BitVec 32 := 1#32
  let v70 : BitVec 32 := Scalar.divsi v68 c1_i32_69
  let v71 : BitVec 32 := Scalar.muli v70 c1_i32_69
  let v72 : BitVec 32 := Scalar.addi c0_i32_67 v71
  let c1_i32_70 : BitVec 32 := 1#32
  ⟨c0_i32_67, v72, c1_i32_70⟩

def k0_chk18 (v116 : IVec S16 32) : Prop :=
  (∀ a x, ((![v116] : Fin 1 → IVec S16 32) a x).toNat < S32784.size a)
theorem k0_idx19_inb : ∀ (v116 : IVec S16 32) (k0_hw18 : k0_chk18 v116), ∀ a x, ((![v116] : Fin 1 → IVec S16 32) a x).toNat < S32784.size a := fun v116 k0_hw18 => k0_hw18

def k0_chk20 (v125 : IVec S16 32) : Prop :=
  (∀ a x, ((![v125] : Fin 1 → IVec S16 32) a x).toNat < S32784.size a)
theorem k0_idx21_inb : ∀ (v125 : IVec S16 32) (k0_hw20 : k0_chk20 v125), ∀ a x, ((![v125] : Fin 1 → IVec S16 32) a x).toNat < S32784.size a := fun v125 k0_hw20 => k0_hw20

def k0_chk19 (v124 : IVec S16 32) : Prop :=
  (∀ a x, ((![v124] : Fin 1 → IVec S16 32) a x).toNat < S4096.size a) ∧
  (∀ a x, ((![v124] : Fin 1 → IVec S16 32) a x).toNat < S4096.size a)
theorem k0_idx20_inb : ∀ (v124 : IVec S16 32) (k0_hw19 : k0_chk19 v124), ∀ a x, ((![v124] : Fin 1 → IVec S16 32) a x).toNat < S4096.size a := fun v124 k0_hw19 => k0_hw19.1
theorem k0_idx22_inb : ∀ (v124 : IVec S16 32) (k0_hw19 : k0_chk19 v124), ∀ a x, ((![v124] : Fin 1 → IVec S16 32) a x).toNat < S4096.size a := fun v124 k0_hw19 => k0_hw19.2
@[reducible] def k0_t17_loop (v17 : BitVec 32) : Scf.Loop 32 :=
  let c0_i32_67 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v68 : BitVec 32 := Scalar.subi v38 c0_i32_67
  let c1_i32_69 : BitVec 32 := 1#32
  let v70 : BitVec 32 := Scalar.divsi v68 c1_i32_69
  let v71 : BitVec 32 := Scalar.muli v70 c1_i32_69
  let v72 : BitVec 32 := Scalar.addi c0_i32_67 v71
  let v69 : BitVec 32 := Scalar.addi c0_i32_67 v68
  let c1_i32_71 : BitVec 32 := 1#32
  ⟨v72, v69, c1_i32_71⟩

def k0_chk21 (v116 : IVec S16 32) : Prop :=
  (∀ a x, ((![v116] : Fin 1 → IVec S16 32) a x).toNat < S32784.size a)
theorem k0_idx23_inb : ∀ (v116 : IVec S16 32) (k0_hw21 : k0_chk21 v116), ∀ a x, ((![v116] : Fin 1 → IVec S16 32) a x).toNat < S32784.size a := fun v116 k0_hw21 => k0_hw21

def k0_chk23 (v125 : IVec S16 32) : Prop :=
  (∀ a x, ((![v125] : Fin 1 → IVec S16 32) a x).toNat < S32784.size a)
theorem k0_idx25_inb : ∀ (v125 : IVec S16 32) (k0_hw23 : k0_chk23 v125), ∀ a x, ((![v125] : Fin 1 → IVec S16 32) a x).toNat < S32784.size a := fun v125 k0_hw23 => k0_hw23

def k0_chk22 (v124 : IVec S16 32) : Prop :=
  (∀ a x, ((![v124] : Fin 1 → IVec S16 32) a x).toNat < S4096.size a) ∧
  (∀ a x, ((![v124] : Fin 1 → IVec S16 32) a x).toNat < S4096.size a)
theorem k0_idx24_inb : ∀ (v124 : IVec S16 32) (k0_hw22 : k0_chk22 v124), ∀ a x, ((![v124] : Fin 1 → IVec S16 32) a x).toNat < S4096.size a := fun v124 k0_hw22 => k0_hw22.1
theorem k0_idx26_inb : ∀ (v124 : IVec S16 32) (k0_hw22 : k0_chk22 v124), ∀ a x, ((![v124] : Fin 1 → IVec S16 32) a x).toNat < S4096.size a := fun v124 k0_hw22 => k0_hw22.2
@[reducible] def k0_t18_loop : Scf.Loop 32 :=
  let c0_i32_73 : BitVec 32 := 0#32
  let c256_i32_74 : BitVec 32 := 256#32
  let v75 : BitVec 32 := Scalar.addi c0_i32_73 c256_i32_74
  let c1_i32_75 : BitVec 32 := 1#32
  ⟨c0_i32_73, v75, c1_i32_75⟩
def k0_off11 (k0_t18 : Fin k0_t18_loop.trips) : Fin 1 → Nat :=
  let c0_i32_73 : BitVec 32 := 0#32
  let c1_i32_75 : BitVec 32 := 1#32
  let arg13 : BitVec 32 := Scf.iv c0_i32_73 c1_i32_75 k0_t18
  let c16_i32_117 : BitVec 32 := 16#32
  let v113 : BitVec 32 := Scalar.muli arg13 c16_i32_117
  let v114 : Index := Scalar.indexCast v113
  ![v114.toNat]
@[reducible] def k0_t19_loop (v17 : BitVec 32) : Scf.Loop 32 :=
  let c0_i32_77 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v77 : BitVec 32 := Scalar.subi v38 c0_i32_77
  let c1_i32_79 : BitVec 32 := 1#32
  let v79 : BitVec 32 := Scalar.divsi v77 c1_i32_79
  let v80 : BitVec 32 := Scalar.muli v79 c1_i32_79
  let v81 : BitVec 32 := Scalar.addi c0_i32_77 v80
  let c1_i32_80 : BitVec 32 := 1#32
  ⟨c0_i32_77, v81, c1_i32_80⟩

def k0_chk24 (v116 : IVec S16 32) : Prop :=
  (∀ a x, ((![v116] : Fin 1 → IVec S16 32) a x).toNat < S32784.size a)
theorem k0_idx27_inb : ∀ (v116 : IVec S16 32) (k0_hw24 : k0_chk24 v116), ∀ a x, ((![v116] : Fin 1 → IVec S16 32) a x).toNat < S32784.size a := fun v116 k0_hw24 => k0_hw24

def k0_chk25 (v124 : IVec S16 32) : Prop :=
  (∀ a x, ((![v124] : Fin 1 → IVec S16 32) a x).toNat < S4096.size a)
theorem k0_idx28_inb : ∀ (v124 : IVec S16 32) (k0_hw25 : k0_chk25 v124), ∀ a x, ((![v124] : Fin 1 → IVec S16 32) a x).toNat < S4096.size a := fun v124 k0_hw25 => k0_hw25
@[reducible] def k0_t20_loop (v17 : BitVec 32) : Scf.Loop 32 :=
  let c0_i32_77 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v77 : BitVec 32 := Scalar.subi v38 c0_i32_77
  let c1_i32_79 : BitVec 32 := 1#32
  let v79 : BitVec 32 := Scalar.divsi v77 c1_i32_79
  let v80 : BitVec 32 := Scalar.muli v79 c1_i32_79
  let v81 : BitVec 32 := Scalar.addi c0_i32_77 v80
  let v78 : BitVec 32 := Scalar.addi c0_i32_77 v77
  let c1_i32_81 : BitVec 32 := 1#32
  ⟨v81, v78, c1_i32_81⟩

def k0_chk26 (v116 : IVec S16 32) : Prop :=
  (∀ a x, ((![v116] : Fin 1 → IVec S16 32) a x).toNat < S32784.size a)
theorem k0_idx29_inb : ∀ (v116 : IVec S16 32) (k0_hw26 : k0_chk26 v116), ∀ a x, ((![v116] : Fin 1 → IVec S16 32) a x).toNat < S32784.size a := fun v116 k0_hw26 => k0_hw26

def k0_chk27 (v124 : IVec S16 32) : Prop :=
  (∀ a x, ((![v124] : Fin 1 → IVec S16 32) a x).toNat < S4096.size a)
theorem k0_idx30_inb : ∀ (v124 : IVec S16 32) (k0_hw27 : k0_chk27 v124), ∀ a x, ((![v124] : Fin 1 → IVec S16 32) a x).toNat < S4096.size a := fun v124 k0_hw27 => k0_hw27
@[reducible] def k0_t21_loop : Scf.Loop 32 :=
  let c0_i32_83 : BitVec 32 := 0#32
  let c256_i32_84 : BitVec 32 := 256#32
  let v84 : BitVec 32 := Scalar.addi c0_i32_83 c256_i32_84
  let c1_i32_85 : BitVec 32 := 1#32
  ⟨c0_i32_83, v84, c1_i32_85⟩
def k0_off12 (k0_t21 : Fin k0_t21_loop.trips) : Fin 1 → Nat :=
  let c0_i32_83 : BitVec 32 := 0#32
  let c1_i32_85 : BitVec 32 := 1#32
  let arg13 : BitVec 32 := Scf.iv c0_i32_83 c1_i32_85 k0_t21
  let c16_i32_117 : BitVec 32 := 16#32
  let v113 : BitVec 32 := Scalar.muli arg13 c16_i32_117
  let v114 : Index := Scalar.indexCast v113
  ![v114.toNat]
@[reducible] def k0_t22_loop (v17 : BitVec 32) : Scf.Loop 32 :=
  let c0_i32_87 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v86 : BitVec 32 := Scalar.subi v38 c0_i32_87
  let c1_i32_89 : BitVec 32 := 1#32
  let v88 : BitVec 32 := Scalar.divsi v86 c1_i32_89
  let v89 : BitVec 32 := Scalar.muli v88 c1_i32_89
  let v90 : BitVec 32 := Scalar.addi c0_i32_87 v89
  let c1_i32_90 : BitVec 32 := 1#32
  ⟨c0_i32_87, v90, c1_i32_90⟩

def k0_chk28 (v116 : IVec S16 32) : Prop :=
  (∀ a x, ((![v116] : Fin 1 → IVec S16 32) a x).toNat < S32784.size a)
theorem k0_idx31_inb : ∀ (v116 : IVec S16 32) (k0_hw28 : k0_chk28 v116), ∀ a x, ((![v116] : Fin 1 → IVec S16 32) a x).toNat < S32784.size a := fun v116 k0_hw28 => k0_hw28

def k0_chk30 (v125 : IVec S16 32) : Prop :=
  (∀ a x, ((![v125] : Fin 1 → IVec S16 32) a x).toNat < S32784.size a)
theorem k0_idx33_inb : ∀ (v125 : IVec S16 32) (k0_hw30 : k0_chk30 v125), ∀ a x, ((![v125] : Fin 1 → IVec S16 32) a x).toNat < S32784.size a := fun v125 k0_hw30 => k0_hw30

def k0_chk29 (v124 : IVec S16 32) : Prop :=
  (∀ a x, ((![v124] : Fin 1 → IVec S16 32) a x).toNat < S4096.size a) ∧
  (∀ a x, ((![v124] : Fin 1 → IVec S16 32) a x).toNat < S4096.size a)
theorem k0_idx32_inb : ∀ (v124 : IVec S16 32) (k0_hw29 : k0_chk29 v124), ∀ a x, ((![v124] : Fin 1 → IVec S16 32) a x).toNat < S4096.size a := fun v124 k0_hw29 => k0_hw29.1
theorem k0_idx34_inb : ∀ (v124 : IVec S16 32) (k0_hw29 : k0_chk29 v124), ∀ a x, ((![v124] : Fin 1 → IVec S16 32) a x).toNat < S4096.size a := fun v124 k0_hw29 => k0_hw29.2
@[reducible] def k0_t23_loop (v17 : BitVec 32) : Scf.Loop 32 :=
  let c0_i32_87 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v86 : BitVec 32 := Scalar.subi v38 c0_i32_87
  let c1_i32_89 : BitVec 32 := 1#32
  let v88 : BitVec 32 := Scalar.divsi v86 c1_i32_89
  let v89 : BitVec 32 := Scalar.muli v88 c1_i32_89
  let v90 : BitVec 32 := Scalar.addi c0_i32_87 v89
  let v87 : BitVec 32 := Scalar.addi c0_i32_87 v86
  let c1_i32_91 : BitVec 32 := 1#32
  ⟨v90, v87, c1_i32_91⟩

def k0_chk31 (v116 : IVec S16 32) : Prop :=
  (∀ a x, ((![v116] : Fin 1 → IVec S16 32) a x).toNat < S32784.size a)
theorem k0_idx35_inb : ∀ (v116 : IVec S16 32) (k0_hw31 : k0_chk31 v116), ∀ a x, ((![v116] : Fin 1 → IVec S16 32) a x).toNat < S32784.size a := fun v116 k0_hw31 => k0_hw31

def k0_chk33 (v125 : IVec S16 32) : Prop :=
  (∀ a x, ((![v125] : Fin 1 → IVec S16 32) a x).toNat < S32784.size a)
theorem k0_idx37_inb : ∀ (v125 : IVec S16 32) (k0_hw33 : k0_chk33 v125), ∀ a x, ((![v125] : Fin 1 → IVec S16 32) a x).toNat < S32784.size a := fun v125 k0_hw33 => k0_hw33

def k0_chk32 (v124 : IVec S16 32) : Prop :=
  (∀ a x, ((![v124] : Fin 1 → IVec S16 32) a x).toNat < S4096.size a) ∧
  (∀ a x, ((![v124] : Fin 1 → IVec S16 32) a x).toNat < S4096.size a)
theorem k0_idx36_inb : ∀ (v124 : IVec S16 32) (k0_hw32 : k0_chk32 v124), ∀ a x, ((![v124] : Fin 1 → IVec S16 32) a x).toNat < S4096.size a := fun v124 k0_hw32 => k0_hw32.1
theorem k0_idx38_inb : ∀ (v124 : IVec S16 32) (k0_hw32 : k0_chk32 v124), ∀ a x, ((![v124] : Fin 1 → IVec S16 32) a x).toNat < S4096.size a := fun v124 k0_hw32 => k0_hw32.2
@[reducible] def k0_t24_loop : Scf.Loop 32 :=
  let c0_i32_93 : BitVec 32 := 0#32
  let c256_i32_94 : BitVec 32 := 256#32
  let v93 : BitVec 32 := Scalar.addi c0_i32_93 c256_i32_94
  let c1_i32_95 : BitVec 32 := 1#32
  ⟨c0_i32_93, v93, c1_i32_95⟩
def k0_off13 (k0_t24 : Fin k0_t24_loop.trips) : Fin 1 → Nat :=
  let c0_i32_93 : BitVec 32 := 0#32
  let c1_i32_95 : BitVec 32 := 1#32
  let arg13 : BitVec 32 := Scf.iv c0_i32_93 c1_i32_95 k0_t24
  let c16_i32_117 : BitVec 32 := 16#32
  let v113 : BitVec 32 := Scalar.muli arg13 c16_i32_117
  let v114 : Index := Scalar.indexCast v113
  ![v114.toNat]
@[reducible] def k0_t25_loop (v17 : BitVec 32) : Scf.Loop 32 :=
  let c0_i32_97 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v95 : BitVec 32 := Scalar.subi v38 c0_i32_97
  let c1_i32_99 : BitVec 32 := 1#32
  let v97 : BitVec 32 := Scalar.divsi v95 c1_i32_99
  let v98 : BitVec 32 := Scalar.muli v97 c1_i32_99
  let v99 : BitVec 32 := Scalar.addi c0_i32_97 v98
  let c1_i32_100 : BitVec 32 := 1#32
  ⟨c0_i32_97, v99, c1_i32_100⟩

def k0_chk34 (v116 : IVec S16 32) : Prop :=
  (∀ a x, ((![v116] : Fin 1 → IVec S16 32) a x).toNat < S32784.size a)
theorem k0_idx39_inb : ∀ (v116 : IVec S16 32) (k0_hw34 : k0_chk34 v116), ∀ a x, ((![v116] : Fin 1 → IVec S16 32) a x).toNat < S32784.size a := fun v116 k0_hw34 => k0_hw34

def k0_chk35 (v124 : IVec S16 32) : Prop :=
  (∀ a x, ((![v124] : Fin 1 → IVec S16 32) a x).toNat < S4096.size a)
theorem k0_idx40_inb : ∀ (v124 : IVec S16 32) (k0_hw35 : k0_chk35 v124), ∀ a x, ((![v124] : Fin 1 → IVec S16 32) a x).toNat < S4096.size a := fun v124 k0_hw35 => k0_hw35
@[reducible] def k0_t26_loop (v17 : BitVec 32) : Scf.Loop 32 :=
  let c0_i32_97 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v95 : BitVec 32 := Scalar.subi v38 c0_i32_97
  let c1_i32_99 : BitVec 32 := 1#32
  let v97 : BitVec 32 := Scalar.divsi v95 c1_i32_99
  let v98 : BitVec 32 := Scalar.muli v97 c1_i32_99
  let v99 : BitVec 32 := Scalar.addi c0_i32_97 v98
  let v96 : BitVec 32 := Scalar.addi c0_i32_97 v95
  let c1_i32_101 : BitVec 32 := 1#32
  ⟨v99, v96, c1_i32_101⟩

def k0_chk36 (v116 : IVec S16 32) : Prop :=
  (∀ a x, ((![v116] : Fin 1 → IVec S16 32) a x).toNat < S32784.size a)
theorem k0_idx41_inb : ∀ (v116 : IVec S16 32) (k0_hw36 : k0_chk36 v116), ∀ a x, ((![v116] : Fin 1 → IVec S16 32) a x).toNat < S32784.size a := fun v116 k0_hw36 => k0_hw36

def k0_chk37 (v124 : IVec S16 32) : Prop :=
  (∀ a x, ((![v124] : Fin 1 → IVec S16 32) a x).toNat < S4096.size a)
theorem k0_idx42_inb : ∀ (v124 : IVec S16 32) (k0_hw37 : k0_chk37 v124), ∀ a x, ((![v124] : Fin 1 → IVec S16 32) a x).toNat < S4096.size a := fun v124 k0_hw37 => k0_hw37
@[reducible] def k0_t27_loop : Scf.Loop 32 :=
  let c0_i32_103 : BitVec 32 := 0#32
  let c256_i32_104 : BitVec 32 := 256#32
  let v102 : BitVec 32 := Scalar.addi c0_i32_103 c256_i32_104
  let c1_i32_105 : BitVec 32 := 1#32
  ⟨c0_i32_103, v102, c1_i32_105⟩
def k0_off14 (k0_t27 : Fin k0_t27_loop.trips) : Fin 1 → Nat :=
  let c0_i32_103 : BitVec 32 := 0#32
  let c1_i32_105 : BitVec 32 := 1#32
  let arg13 : BitVec 32 := Scf.iv c0_i32_103 c1_i32_105 k0_t27
  let c16_i32_117 : BitVec 32 := 16#32
  let v113 : BitVec 32 := Scalar.muli arg13 c16_i32_117
  let v114 : Index := Scalar.indexCast v113
  ![v114.toNat]
@[reducible] def k0_t28_loop (v17 : BitVec 32) : Scf.Loop 32 :=
  let c0_i32_107 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v104 : BitVec 32 := Scalar.subi v38 c0_i32_107
  let c1_i32_109 : BitVec 32 := 1#32
  let v106 : BitVec 32 := Scalar.divsi v104 c1_i32_109
  let v107 : BitVec 32 := Scalar.muli v106 c1_i32_109
  let v108 : BitVec 32 := Scalar.addi c0_i32_107 v107
  let c1_i32_110 : BitVec 32 := 1#32
  ⟨c0_i32_107, v108, c1_i32_110⟩

def k0_chk38 (v116 : IVec S16 32) : Prop :=
  (∀ a x, ((![v116] : Fin 1 → IVec S16 32) a x).toNat < S32784.size a)
theorem k0_idx43_inb : ∀ (v116 : IVec S16 32) (k0_hw38 : k0_chk38 v116), ∀ a x, ((![v116] : Fin 1 → IVec S16 32) a x).toNat < S32784.size a := fun v116 k0_hw38 => k0_hw38

def k0_chk40 (v125 : IVec S16 32) : Prop :=
  (∀ a x, ((![v125] : Fin 1 → IVec S16 32) a x).toNat < S32784.size a)
theorem k0_idx45_inb : ∀ (v125 : IVec S16 32) (k0_hw40 : k0_chk40 v125), ∀ a x, ((![v125] : Fin 1 → IVec S16 32) a x).toNat < S32784.size a := fun v125 k0_hw40 => k0_hw40

def k0_chk39 (v124 : IVec S16 32) : Prop :=
  (∀ a x, ((![v124] : Fin 1 → IVec S16 32) a x).toNat < S4096.size a) ∧
  (∀ a x, ((![v124] : Fin 1 → IVec S16 32) a x).toNat < S4096.size a)
theorem k0_idx44_inb : ∀ (v124 : IVec S16 32) (k0_hw39 : k0_chk39 v124), ∀ a x, ((![v124] : Fin 1 → IVec S16 32) a x).toNat < S4096.size a := fun v124 k0_hw39 => k0_hw39.1
theorem k0_idx46_inb : ∀ (v124 : IVec S16 32) (k0_hw39 : k0_chk39 v124), ∀ a x, ((![v124] : Fin 1 → IVec S16 32) a x).toNat < S4096.size a := fun v124 k0_hw39 => k0_hw39.2
@[reducible] def k0_t29_loop (v17 : BitVec 32) : Scf.Loop 32 :=
  let c0_i32_107 : BitVec 32 := 0#32
  let c16_i32 : BitVec 32 := 16#32
  let v20 : BitVec 32 := Scalar.addi v17 c16_i32
  let c1_i32_24 : BitVec 32 := 1#32
  let v21 : BitVec 32 := Scalar.subi v20 c1_i32_24
  let c0_i32_26 : BitVec 32 := 0#32
  let v23 : BitVec 1 := Scalar.cmpi .sgt v21 c0_i32_26
  let v24 : BitVec 32 := Scalar.extui v23
  let c0_i32_27 : BitVec 32 := 0#32
  let v25 : BitVec 1 := Scalar.cmpi .slt v21 c0_i32_27
  let v26 : BitVec 32 := Scalar.extui v25
  let v27 : BitVec 32 := Scalar.subi v24 v26
  let c16_i32_25 : BitVec 32 := 16#32
  let c0_i32_28 : BitVec 32 := 0#32
  let v28 : BitVec 1 := Scalar.cmpi .sgt c16_i32_25 c0_i32_28
  let v29 : BitVec 32 := Scalar.extui v28
  let c0_i32_29 : BitVec 32 := 0#32
  let v30 : BitVec 1 := Scalar.cmpi .slt c16_i32_25 c0_i32_29
  let v31 : BitVec 32 := Scalar.extui v30
  let v32 : BitVec 32 := Scalar.subi v29 v31
  let v33 : BitVec 1 := Scalar.cmpi .ne v27 v32
  let v34 : BitVec 32 := Scalar.remsi v21 c16_i32_25
  let c0_i32_30 : BitVec 32 := 0#32
  let v35 : BitVec 1 := Scalar.cmpi .ne v34 c0_i32_30
  let v36 : BitVec 1 := Scalar.andi v33 v35
  let v22 : BitVec 32 := Scalar.divsi v21 c16_i32_25
  let c1_i32_31 : BitVec 32 := 1#32
  let v37 : BitVec 32 := Scalar.subi v22 c1_i32_31
  let v38 : BitVec 32 := Scalar.select v36 v37 v22
  let v104 : BitVec 32 := Scalar.subi v38 c0_i32_107
  let c1_i32_109 : BitVec 32 := 1#32
  let v106 : BitVec 32 := Scalar.divsi v104 c1_i32_109
  let v107 : BitVec 32 := Scalar.muli v106 c1_i32_109
  let v108 : BitVec 32 := Scalar.addi c0_i32_107 v107
  let v105 : BitVec 32 := Scalar.addi c0_i32_107 v104
  let c1_i32_111 : BitVec 32 := 1#32
  ⟨v108, v105, c1_i32_111⟩

def k0_chk3 (v17 : BitVec 32) : Prop :=
  (∀ a, (k0_off6 v17) a + S16.size a ≤ S32784.size a) ∧
  ((k0_t7_loop v17).OK) ∧
  ((k0_t8_loop v17).OK) ∧
  ((k0_t10_loop v17).OK) ∧
  ((k0_t11_loop v17).OK) ∧
  ((k0_t13_loop v17).OK) ∧
  ((k0_t14_loop v17).OK) ∧
  ((k0_t16_loop v17).OK) ∧
  ((k0_t17_loop v17).OK) ∧
  ((k0_t19_loop v17).OK) ∧
  ((k0_t20_loop v17).OK) ∧
  ((k0_t22_loop v17).OK) ∧
  ((k0_t23_loop v17).OK) ∧
  ((k0_t25_loop v17).OK) ∧
  ((k0_t26_loop v17).OK) ∧
  ((k0_t28_loop v17).OK) ∧
  ((k0_t29_loop v17).OK)
theorem k0_off6_inb : ∀ (v17 : BitVec 32) (k0_hw3 : k0_chk3 v17), ∀ a, (k0_off6 v17) a + S16.size a ≤ S32784.size a := fun v17 k0_hw3 => k0_hw3.1
theorem k0_t7_ok : ∀ (v17 : BitVec 32) (k0_hw3 : k0_chk3 v17), (k0_t7_loop v17).OK := fun v17 k0_hw3 => k0_hw3.2.1
theorem k0_t8_ok : ∀ (v17 : BitVec 32) (k0_hw3 : k0_chk3 v17), (k0_t8_loop v17).OK := fun v17 k0_hw3 => k0_hw3.2.2.1
theorem k0_t10_ok : ∀ (v17 : BitVec 32) (k0_hw3 : k0_chk3 v17), (k0_t10_loop v17).OK := fun v17 k0_hw3 => k0_hw3.2.2.2.1
theorem k0_t11_ok : ∀ (v17 : BitVec 32) (k0_hw3 : k0_chk3 v17), (k0_t11_loop v17).OK := fun v17 k0_hw3 => k0_hw3.2.2.2.2.1
theorem k0_t13_ok : ∀ (v17 : BitVec 32) (k0_hw3 : k0_chk3 v17), (k0_t13_loop v17).OK := fun v17 k0_hw3 => k0_hw3.2.2.2.2.2.1
theorem k0_t14_ok : ∀ (v17 : BitVec 32) (k0_hw3 : k0_chk3 v17), (k0_t14_loop v17).OK := fun v17 k0_hw3 => k0_hw3.2.2.2.2.2.2.1
theorem k0_t16_ok : ∀ (v17 : BitVec 32) (k0_hw3 : k0_chk3 v17), (k0_t16_loop v17).OK := fun v17 k0_hw3 => k0_hw3.2.2.2.2.2.2.2.1
theorem k0_t17_ok : ∀ (v17 : BitVec 32) (k0_hw3 : k0_chk3 v17), (k0_t17_loop v17).OK := fun v17 k0_hw3 => k0_hw3.2.2.2.2.2.2.2.2.1
theorem k0_t19_ok : ∀ (v17 : BitVec 32) (k0_hw3 : k0_chk3 v17), (k0_t19_loop v17).OK := fun v17 k0_hw3 => k0_hw3.2.2.2.2.2.2.2.2.2.1
theorem k0_t20_ok : ∀ (v17 : BitVec 32) (k0_hw3 : k0_chk3 v17), (k0_t20_loop v17).OK := fun v17 k0_hw3 => k0_hw3.2.2.2.2.2.2.2.2.2.2.1
theorem k0_t22_ok : ∀ (v17 : BitVec 32) (k0_hw3 : k0_chk3 v17), (k0_t22_loop v17).OK := fun v17 k0_hw3 => k0_hw3.2.2.2.2.2.2.2.2.2.2.2.1
theorem k0_t23_ok : ∀ (v17 : BitVec 32) (k0_hw3 : k0_chk3 v17), (k0_t23_loop v17).OK := fun v17 k0_hw3 => k0_hw3.2.2.2.2.2.2.2.2.2.2.2.2.1
theorem k0_t25_ok : ∀ (v17 : BitVec 32) (k0_hw3 : k0_chk3 v17), (k0_t25_loop v17).OK := fun v17 k0_hw3 => k0_hw3.2.2.2.2.2.2.2.2.2.2.2.2.2.1
theorem k0_t26_ok : ∀ (v17 : BitVec 32) (k0_hw3 : k0_chk3 v17), (k0_t26_loop v17).OK := fun v17 k0_hw3 => k0_hw3.2.2.2.2.2.2.2.2.2.2.2.2.2.2.1
theorem k0_t28_ok : ∀ (v17 : BitVec 32) (k0_hw3 : k0_chk3 v17), (k0_t28_loop v17).OK := fun v17 k0_hw3 => k0_hw3.2.2.2.2.2.2.2.2.2.2.2.2.2.2.2.1
theorem k0_t29_ok : ∀ (v17 : BitVec 32) (k0_hw3 : k0_chk3 v17), (k0_t29_loop v17).OK := fun v17 k0_hw3 => k0_hw3.2.2.2.2.2.2.2.2.2.2.2.2.2.2.2.2

def k0_chk41 (v116 : IVec S16 32) : Prop :=
  (∀ a x, ((![v116] : Fin 1 → IVec S16 32) a x).toNat < S32784.size a)
theorem k0_idx47_inb : ∀ (v116 : IVec S16 32) (k0_hw41 : k0_chk41 v116), ∀ a x, ((![v116] : Fin 1 → IVec S16 32) a x).toNat < S32784.size a := fun v116 k0_hw41 => k0_hw41

def k0_chk43 (v125 : IVec S16 32) : Prop :=
  (∀ a x, ((![v125] : Fin 1 → IVec S16 32) a x).toNat < S32784.size a)
theorem k0_idx49_inb : ∀ (v125 : IVec S16 32) (k0_hw43 : k0_chk43 v125), ∀ a x, ((![v125] : Fin 1 → IVec S16 32) a x).toNat < S32784.size a := fun v125 k0_hw43 => k0_hw43

def k0_chk42 (v124 : IVec S16 32) : Prop :=
  (∀ a x, ((![v124] : Fin 1 → IVec S16 32) a x).toNat < S4096.size a) ∧
  (∀ a x, ((![v124] : Fin 1 → IVec S16 32) a x).toNat < S4096.size a)
theorem k0_idx48_inb : ∀ (v124 : IVec S16 32) (k0_hw42 : k0_chk42 v124), ∀ a x, ((![v124] : Fin 1 → IVec S16 32) a x).toNat < S4096.size a := fun v124 k0_hw42 => k0_hw42.1
theorem k0_idx50_inb : ∀ (v124 : IVec S16 32) (k0_hw42 : k0_chk42 v124), ∀ a x, ((![v124] : Fin 1 → IVec S16 32) a x).toNat < S4096.size a := fun v124 k0_hw42 => k0_hw42.2
@[reducible] def k0_t30_loop : Scf.Loop 32 :=
  let c0_i32_113 : BitVec 32 := 0#32
  let c512_i32 : BitVec 32 := 512#32
  let v111 : BitVec 32 := Scalar.addi c0_i32_113 c512_i32
  let c1_i32_114 : BitVec 32 := 1#32
  ⟨c0_i32_113, v111, c1_i32_114⟩
def k0_off15 (k0_t30 : Fin k0_t30_loop.trips) : Fin 1 → Nat :=
  let c0_i32_113 : BitVec 32 := 0#32
  let c1_i32_114 : BitVec 32 := 1#32
  let arg13 : BitVec 32 := Scf.iv c0_i32_113 c1_i32_114 k0_t30
  let c16_i32_117 : BitVec 32 := 16#32
  let v113 : BitVec 32 := Scalar.muli arg13 c16_i32_117
  let v114 : Index := Scalar.indexCast v113
  ![v114.toNat]
def k0_off16 (k0_t30 : Fin k0_t30_loop.trips) : Fin 1 → Nat :=
  let c0_i32_113 : BitVec 32 := 0#32
  let c1_i32_114 : BitVec 32 := 1#32
  let arg13 : BitVec 32 := Scf.iv c0_i32_113 c1_i32_114 k0_t30
  let c16_i32_120 : BitVec 32 := 16#32
  let v124 : BitVec 32 := Scalar.muli arg13 c16_i32_120
  let v125 : Index := Scalar.indexCast v124
  ![v125.toNat]
def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_4 : BitVec 32 := 64#32
  let v8 : BitVec 32 := Scalar.muli v1 c64_i32_4
  let c0_i32_1 : BitVec 32 := 0#32
  let c1_i32_2 : BitVec 32 := 1#32
  let arg11 : BitVec 32 := Scf.iv c0_i32_1 c1_i32_2 k0_t1
  let v9 : BitVec 32 := Scalar.addi v8 arg11
  let c0_i32_117_r1 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S64x32x32768 : Shape := ⟨3, ![64, 32, 32768]⟩
abbrev S64x32x8192 : Shape := ⟨3, ![64, 32, 8192]⟩

abbrev nBuf : Space → Nat
  | .hbm => 3
  | .vmem => 0
  | .smem => 0
  | _ => 0

abbrev bufTy : (tb : Table) → Fin (tcTables nBuf tb) → BufTy
  | .hbm, ⟨0, _⟩ => ⟨S64x32x32768, .f32⟩
  | .hbm, ⟨1, _⟩ => ⟨S64x32x8192, .f32⟩
  | .hbm, ⟨2, _⟩ => ⟨S64x32x8192, .i32⟩
  | _, _ => ⟨S64x32x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩

abbrev nD : Nat := 1
abbrev τ : Topo := Topo.v7x

variable {F : FTy → Type} [FloatOps F]
-- ==== Proof.Count.lean ====
/-
  Counting: the arithmetic of a stable counting sort over sixteen lanes, of a stable compaction, and of the k-th smallest
  word of a sequence. Nothing here mentions a program: sequences are functions on the naturals.
-/
module

public import Mathlib.Data.Nat.Count
public import Mathlib.Algebra.BigOperators.Ring.Finset
public import Mathlib.Algebra.BigOperators.Intervals
public import Mathlib.Algebra.Order.BigOperators.Group.Finset
public import Mathlib.Order.Interval.Finset.Nat
public import Mathlib.Tactic.Ring
public import Mathlib.Tactic.Linarith

@[expose] public section

namespace Cert.Count

open Finset

/-- A count below `n` is the size of a filtered range. -/
theorem count_card (p : ℕ → Prop) [DecidablePred p] (n : ℕ) : Nat.count p n = ((range n).filter p).card :=
  Nat.count_eq_card_filter_range p n

/-! ## Histogram cells: sixteen lanes, each with its own column of cells -/

/-- The key of step `i`, lane `l`, names a cell of lane `l`'s column among 4096. -/
structure Lanes (K : ℕ → ℕ → ℕ) : Prop where
  lt : ∀ i l, l < 16 → K i l < 4096
  mod : ∀ i l, l < 16 → K i l % 16 = l

/-- How many of the first `n` steps fall in cell `h` (they are all lane `h % 16`'s). -/
def cell (K : ℕ → ℕ → ℕ) (n h : ℕ) : ℕ := Nat.count (fun i => K i (h % 16) = h) n

/-- How many entries of the first `n` steps fall in a cell below `H`. -/
def below (K : ℕ → ℕ → ℕ) (n H : ℕ) : ℕ := ∑ h ∈ range H, cell K n h

theorem cell_zero (K : ℕ → ℕ → ℕ) (h : ℕ) : cell K 0 h = 0 := rfl

theorem cell_succ (K : ℕ → ℕ → ℕ) (n h : ℕ) : cell K (n + 1) h = cell K n h + if K n (h % 16) = h then 1 else 0 :=
  Nat.count_succ _ _

theorem below_succ (K : ℕ → ℕ → ℕ) (n H : ℕ) : below K n (H + 1) = below K n H + cell K n H := Finset.sum_range_succ _ _

theorem below_mono (K : ℕ → ℕ → ℕ) (n : ℕ) {H H' : ℕ} (h : H ≤ H') : below K n H ≤ below K n H' :=
  Finset.sum_le_sum_of_subset (Finset.range_subset_range.2 h)

/-- Entries below cell `H`, counted step by step and lane by lane. -/
theorem below_eq {K : ℕ → ℕ → ℕ} (hK : Lanes K) (n H : ℕ) :
    below K n H = ∑ i ∈ range n, ∑ l ∈ range 16, if K i l < H then 1 else 0 := by
  unfold below cell
  simp only [count_card, Finset.card_filter]
  rw [Finset.sum_comm]
  refine Finset.sum_congr rfl fun i _ => ?_
  rw [← Finset.card_filter, ← Finset.card_filter]
  refine (Finset.card_bij' (fun h _ => h % 16) (fun l _ => K i l) ?_ ?_ ?_ ?_)
  · intro h hh
    simp only [mem_filter, mem_range] at hh ⊢
    exact ⟨Nat.mod_lt _ (by norm_num), by rw [hh.2]; exact hh.1⟩
  · intro l hl
    simp only [mem_filter, mem_range] at hl ⊢
    exact ⟨hl.2, by rw [hK.mod i l hl.1]⟩
  · intro h hh
    simp only [mem_filter, mem_range] at hh
    exact hh.2
  · intro l hl
    simp only [mem_filter, mem_range] at hl
    exact hK.mod i l hl.1

/-- All the cells hold all the entries. -/
theorem below_all {K : ℕ → ℕ → ℕ} (hK : Lanes K) (n : ℕ) : below K n 4096 = 16 * n := by
  rw [below_eq hK]
  have : ∀ i ∈ range n, (∑ l ∈ range 16, if K i l < 4096 then 1 else 0) = 16 := by
    intro i _
    rw [Finset.sum_congr rfl (fun l hl => if_pos (hK.lt i l (mem_range.1 hl)))]
    simp
  rw [Finset.sum_congr rfl this]; simp [mul_comm]

/-- Where step `i`, lane `l` lands among `n` steps: after the entries of the cells below its own and the earlier
    entries of its own. -/
def place (K : ℕ → ℕ → ℕ) (n i l : ℕ) : ℕ := below K n (K i l) + Nat.count (fun i' => K i' l = K i l) i

theorem count_lt_cell {K : ℕ → ℕ → ℕ} (hK : Lanes K) {n i l : ℕ} (hi : i < n) (hl : l < 16) :
    Nat.count (fun i' => K i' l = K i l) i < cell K n (K i l) := by
  unfold cell
  rw [hK.mod i l hl]
  exact Nat.count_strict_mono (p := fun i' => K i' l = K i l) rfl hi

theorem place_lt_succ {K : ℕ → ℕ → ℕ} (hK : Lanes K) {n i l : ℕ} (hi : i < n) (hl : l < 16) :
    place K n i l < below K n (K i l + 1) := by
  rw [below_succ]; unfold place
  have := count_lt_cell hK hi hl
  omega

theorem place_lt {K : ℕ → ℕ → ℕ} (hK : Lanes K) {n i l : ℕ} (hi : i < n) (hl : l < 16) : place K n i l < 16 * n := by
  rw [← below_all hK n]
  exact (place_lt_succ hK hi hl).trans_le (below_mono K n (hK.lt i l hl))

/-- A smaller cell lands earlier. -/
theorem place_lt_place {K : ℕ → ℕ → ℕ} (hK : Lanes K) {n i l i' l' : ℕ} (hi : i < n) (hl : l < 16)
    (h : K i l < K i' l') : place K n i l < place K n i' l' :=
  (place_lt_succ hK hi hl).trans_le ((below_mono K n h).trans (Nat.le_add_right _ _))

/-- Within a cell the earlier step lands earlier. -/
theorem place_lt_place_of_eq {K : ℕ → ℕ → ℕ} {n i i' l : ℕ} (h : K i l = K i' l) (hi : i < i') :
    place K n i l < place K n i' l := by
  unfold place
  rw [h]
  have := Nat.count_strict_mono (p := fun j => K j l = K i' l) (m := i) (n := i') h hi
  omega

theorem place_inj {K : ℕ → ℕ → ℕ} (hK : Lanes K) {n i l i' l' : ℕ} (hi : i < n) (hl : l < 16) (hi' : i' < n) (hl' : l' < 16)
    (h : place K n i l = place K n i' l') : i = i' ∧ l = l' := by
  rcases lt_trichotomy (K i l) (K i' l') with hlt | heq | hgt
  · exact absurd h (place_lt_place hK hi hl hlt).ne
  · have hll : l = l' := by rw [← hK.mod i l hl, ← hK.mod i' l' hl', heq]
    subst hll
    refine ⟨?_, rfl⟩
    rcases lt_trichotomy i i' with hlt | he | hgt
    · exact absurd h (place_lt_place_of_eq heq hlt).ne
    · exact he
    · exact absurd h (place_lt_place_of_eq heq.symm hgt).ne'
  · exact absurd h (place_lt_place hK hi' hl' hgt).ne'

/-! ## One pass of the radix sort -/

/-- Digit of a word: eight bits from bit `s`. -/
def dig (s : ℕ) (w : BitVec 32) : ℕ := w.toNat / 2 ^ s % 256

theorem dig_lt (s : ℕ) (w : BitVec 32) : dig s w < 256 := Nat.mod_lt _ (by norm_num)

/-- The keys of a pass over `src`, lane `l` reading block `l` of length `T`. -/
def passKey (s T : ℕ) (src : ℕ → BitVec 32) (i l : ℕ) : ℕ := 16 * dig s (src (l * T + i)) + l

theorem passKey_lanes (s T : ℕ) (src : ℕ → BitVec 32) : Lanes (passKey s T src) where
  lt i l hl := by have := dig_lt s (src (l * T + i)); unfold passKey; omega
  mod i l hl := by unfold passKey; omega

/-- Ascending by the low `s` bits. -/
def SortedLow (s : ℕ) (f : ℕ → BitVec 32) (M : ℕ) : Prop :=
  ∀ p q, p < q → q < M → (f p).toNat % 2 ^ s ≤ (f q).toNat % 2 ^ s

/-- What a pass leaves: each word of `src` at its place. -/
def Placed (s T : ℕ) (src dst : ℕ → BitVec 32) : Prop :=
  ∀ i < T, ∀ l < 16, dst (place (passKey s T src) T i l) = src (l * T + i)

section Pass

variable {s T : ℕ} {src dst : ℕ → BitVec 32}

/-- Flat position `t`'s place. -/
def flat (s T : ℕ) (src : ℕ → BitVec 32) (t : ℕ) : ℕ := place (passKey s T src) T (t % T) (t / T)

theorem split_lt {t : ℕ} (ht : t < 16 * T) : t % T < T ∧ t / T < 16 := by
  have hT : 0 < T := by omega
  exact ⟨Nat.mod_lt _ hT, Nat.div_lt_of_lt_mul (by rwa [mul_comm] at ht)⟩

theorem split_eq (t : ℕ) : t / T * T + t % T = t := by rw [mul_comm]; exact Nat.div_add_mod t T

theorem flat_lt {t : ℕ} (ht : t < 16 * T) : flat s T src t < 16 * T :=
  place_lt (passKey_lanes s T src) (split_lt ht).1 (split_lt ht).2

theorem flat_inj {t t' : ℕ} (ht : t < 16 * T) (ht' : t' < 16 * T) (h : flat s T src t = flat s T src t') : t = t' := by
  obtain ⟨h1, h2⟩ := place_inj (passKey_lanes s T src) (split_lt ht).1 (split_lt ht).2 (split_lt ht').1 (split_lt ht').2 h
  rw [← split_eq (T := T) t, ← split_eq (T := T) t', h1, h2]

theorem image_flat : (range (16 * T)).image (flat s T src) = range (16 * T) := by
  apply Finset.eq_of_subset_of_card_le
  · intro p hp
    obtain ⟨t, ht, rfl⟩ := Finset.mem_image.1 hp
    exact mem_range.2 (flat_lt (mem_range.1 ht))
  · rw [Finset.card_image_of_injOn]
    intro a ha b hb h
    exact flat_inj (mem_range.1 (by simpa using ha)) (mem_range.1 (by simpa using hb)) h

theorem exists_flat {p : ℕ} (hp : p < 16 * T) : ∃ t < 16 * T, flat s T src t = p := by
  have : p ∈ (range (16 * T)).image (flat s T src) := by rw [image_flat]; exact mem_range.2 hp
  obtain ⟨t, ht, h⟩ := Finset.mem_image.1 this
  exact ⟨t, mem_range.1 ht, h⟩

theorem Placed.flat (h : Placed s T src dst) {t : ℕ} (ht : t < 16 * T) : dst (flat s T src t) = src t := by
  have := h _ (split_lt ht).1 _ (split_lt ht).2
  rw [split_eq] at this
  exact this

/-- A pass permutes: it keeps every count. -/
theorem Placed.count (h : Placed s T src dst) (p : BitVec 32 → Prop) [DecidablePred p] :
    Nat.count (fun t => p (dst t)) (16 * T) = Nat.count (fun t => p (src t)) (16 * T) := by
  rw [count_card, count_card]
  symm
  refine Finset.card_bij (fun t _ => Count.flat s T src t) ?_ ?_ ?_
  · intro t ht
    simp only [mem_filter, mem_range] at ht ⊢
    exact ⟨flat_lt ht.1, by rw [h.flat ht.1]; exact ht.2⟩
  · intro a ha b hb hab
    simp only [mem_filter, mem_range] at ha hb
    exact flat_inj ha.1 hb.1 hab
  · intro q hq
    simp only [mem_filter, mem_range] at hq
    obtain ⟨t, ht, rfl⟩ := exists_flat (s := s) (src := src) hq.1
    refine ⟨t, ?_, rfl⟩
    simp only [mem_filter, mem_range]
    exact ⟨ht, by rw [← h.flat ht]; exact hq.2⟩

/-- Places in order come from digits in order, and within one digit from positions in order. -/
theorem lex_of_flat_lt {a b : ℕ} (ha : a < 16 * T) (hb : b < 16 * T) (h : Count.flat s T src a < Count.flat s T src b) :
    dig s (src a) < dig s (src b) ∨ (dig s (src a) = dig s (src b) ∧ a < b) := by
  have hL := passKey_lanes s T src
  obtain ⟨ha1, ha2⟩ := split_lt ha
  obtain ⟨hb1, hb2⟩ := split_lt hb
  have ka : passKey s T src (a % T) (a / T) = 16 * dig s (src a) + a / T := by unfold passKey; rw [split_eq]
  have kb : passKey s T src (b % T) (b / T) = 16 * dig s (src b) + b / T := by unfold passKey; rw [split_eq]
  have ea := split_eq (T := T) a
  have eb := split_eq (T := T) b
  rcases lt_trichotomy (passKey s T src (a % T) (a / T)) (passKey s T src (b % T) (b / T)) with hlt | heq | hgt
  · rw [ka, kb] at hlt
    rcases lt_trichotomy (dig s (src a)) (dig s (src b)) with hd | hd | hd
    · exact .inl hd
    · refine .inr ⟨hd, ?_⟩
      have hq : a / T < b / T := by omega
      have : a / T * T + T ≤ b / T * T := by
        have := Nat.mul_le_mul_right T (Nat.succ_le_of_lt hq)
        rwa [Nat.succ_mul] at this
      omega
    · exfalso
      have := Nat.zero_le (a / T)
      linarith
  · have hq : a / T = b / T := by rw [← hL.mod (a % T) (a / T) ha2, ← hL.mod (b % T) (b / T) hb2, heq]
    have hd : dig s (src a) = dig s (src b) := by rw [ka, kb] at heq; omega
    refine .inr ⟨hd, ?_⟩
    by_contra hab
    rcases Nat.lt_or_ge (b % T) (a % T) with hm | hm
    · have := place_lt_place_of_eq (n := T) (K := passKey s T src) (i := b % T) (i' := a % T) (l := a / T) (by rw [heq]; rw [hq]) hm
      unfold Count.flat at h
      rw [← hq] at h
      omega
    · rw [hq] at ea
      have : a = b := by omega
      subst this
      exact lt_irrefl _ h
  · exact absurd h (place_lt_place hL hb1 hb2 hgt).asymm

/-- The pass at bits `s … s + 7` sorts eight more bits. -/
theorem Placed.sorted (h : Placed s T src dst) (hs : SortedLow s src (16 * T)) : SortedLow (s + 8) dst (16 * T) := by
  intro p q hpq hq
  obtain ⟨a, ha, rfl⟩ := exists_flat (s := s) (src := src) (hpq.trans hq)
  obtain ⟨b, hb, rfl⟩ := exists_flat (s := s) (src := src) hq
  rw [h.flat ha, h.flat hb, pow_add, Nat.mod_mul, Nat.mod_mul]
  have hl := lex_of_flat_lt ha hb hpq
  unfold dig at hl
  norm_num at hl ⊢
  have hma := Nat.mod_lt (src a).toNat (pow_pos (by norm_num : 0 < 2) s)
  rcases hl with hd | ⟨hd, hab⟩
  · have : 2 ^ s * ((src a).toNat / 2 ^ s % 256) + 2 ^ s ≤ 2 ^ s * ((src b).toNat / 2 ^ s % 256) := by
      have := Nat.mul_le_mul_left (2 ^ s) (Nat.succ_le_of_lt hd)
      rwa [Nat.mul_succ] at this
    omega
  · rw [hd]
    have := hs a b hab hb
    omega

end Pass

/-- Ascending by no bits says nothing. -/
theorem sortedLow_zero (f : ℕ → BitVec 32) (M : ℕ) : SortedLow 0 f M := by
  intro p q _ _; simp [Nat.mod_one]

/-- Ascending by all 32 bits. -/
theorem SortedLow.le {f : ℕ → BitVec 32} {M : ℕ} (h : SortedLow 32 f M) {p q : ℕ} (hpq : p ≤ q) (hq : q < M) : f p ≤ f q := by
  rcases hpq.eq_or_lt with rfl | hlt
  · exact BitVec.le_refl _
  · have := h p q hlt hq
    rw [Nat.mod_eq_of_lt (f p).isLt, Nat.mod_eq_of_lt (f q).isLt] at this
    exact BitVec.le_def.2 this

/-! ## Compaction -/

/-- What a compaction leaves: each selected word at the number of selected ones before it. -/
def Packed (n : ℕ) (sel : ℕ → Prop) [DecidablePred sel] (key dst : ℕ → BitVec 32) : Prop :=
  ∀ j < n, sel j → dst (Nat.count sel j) = key j

theorem Packed.count {n : ℕ} {sel : ℕ → Prop} [DecidablePred sel] {key dst : ℕ → BitVec 32} (h : Packed n sel key dst)
    (p : BitVec 32 → Prop) [DecidablePred p] :
    Nat.count (fun t => p (dst t)) (Nat.count sel n) = Nat.count (fun j => sel j ∧ p (key j)) n := by
  induction n with
  | zero => rfl
  | succ n ih =>
    have ih := ih fun j hj => h j (Nat.lt_succ_of_lt hj)
    rw [Nat.count_succ (fun j => sel j ∧ p (key j)), ← ih, Nat.count_succ sel]
    by_cases hs : sel n
    · rw [if_pos hs, Nat.count_succ, h n (Nat.lt_succ_self n) hs]
      simp only [hs, true_and]
    · simp [hs]

/-! ## The k-th smallest -/

/-- `v` is the k-th smallest (from 0) of the first `n` words of `key`, read unsigned. -/
def Kth (key : ℕ → BitVec 32) (n k : ℕ) (v : BitVec 32) : Prop :=
  Nat.count (fun j => key j < v) n ≤ k ∧ k < Nat.count (fun j => key j ≤ v) n

theorem Kth.unique {key : ℕ → BitVec 32} {n k : ℕ} {v v' : BitVec 32} (h : Kth key n k v) (h' : Kth key n k v') : v = v' := by
  have aux : ∀ {v v'}, Kth key n k v → Kth key n k v' → ¬ v < v' := by
    intro v v' h h' hlt
    have : Nat.count (fun j => key j ≤ v) n ≤ Nat.count (fun j => key j < v') n := by
      rw [count_card, count_card]
      refine Finset.card_le_card fun j hj => ?_
      simp only [mem_filter] at hj ⊢
      exact ⟨hj.1, by have := hj.2; rw [BitVec.le_def] at this; rw [BitVec.lt_def] at hlt ⊢; omega⟩
    have h1 := h.2; have h2 := h'.1
    omega
  have h1 := aux h h'; have h2 := aux h' h
  rw [BitVec.lt_def] at h1 h2
  exact BitVec.eq_of_toNat_eq (by omega)

/-- In an ascending sequence the word at `k` is the k-th smallest. -/
theorem kth_of_sorted {f : ℕ → BitVec 32} {M k : ℕ} (h : ∀ p q, p ≤ q → q < M → f p ≤ f q) (hk : k < M) : Kth f M k (f k) := by
  constructor
  · rw [count_card]
    refine (Finset.card_le_card (t := range k) fun t ht => ?_).trans_eq (card_range k)
    simp only [mem_filter, mem_range] at ht ⊢
    by_contra hkt
    have := h k t (by omega) ht.1
    have h2 := ht.2
    rw [BitVec.le_def] at this; rw [BitVec.lt_def] at h2; omega
  · rw [count_card]
    refine lt_of_lt_of_le (Nat.lt_succ_self k) ((card_range (k + 1)).symm.le.trans (Finset.card_le_card fun t ht => ?_))
    simp only [mem_filter, mem_range] at ht ⊢
    exact ⟨by omega, h t k (by omega) hk⟩

/-- The selection: `f` is ascending over `M` places, its counts are those of the selected words of `key` (`m` of them) followed
    by `M - m` words that are the greatest of all; a selected word's whole class is selected downwards. Then below `m` it
    gives the k-th smallest words of all of `key`. -/
theorem kth_of_selected {key f a : ℕ → BitVec 32} {n m M k : ℕ} {sel : ℕ → Prop} [DecidablePred sel]
    (hm : Nat.count sel n = m) (hM : m ≤ M) (hk : k < m)
    (hsorted : ∀ p q, p ≤ q → q < M → f p ≤ f q)
    (hcount : ∀ (p : BitVec 32 → Prop) [DecidablePred p], Nat.count (fun t => p (f t)) M = Nat.count (fun t => p (a t)) M)
    (hpack : Packed n sel key a) (hfill : ∀ t, m ≤ t → t < M → a t = 0xFFFFFFFF#32)
    (hdown : ∀ i j, i < n → j < n → sel j → key i ≤ key j → sel i) : Kth key n k (f k) := by
  have hmax : ∀ w : BitVec 32, w ≤ 0xFFFFFFFF#32 := fun w => by
    rw [BitVec.le_def]; have := w.isLt; simp; omega
  have hnlt : ∀ w : BitVec 32, ¬ 0xFFFFFFFF#32 < w := fun w h => by
    have := hmax w; rw [BitVec.lt_def] at h; rw [BitVec.le_def] at this; omega
  obtain ⟨h1, h2⟩ := kth_of_sorted hsorted (hk.trans_le hM)
  -- the counts over `M` places, cut at `m`
  have cut : ∀ (p : BitVec 32 → Prop) [DecidablePred p], Nat.count (fun t => p (a t)) M
      = Nat.count (fun j => sel j ∧ p (key j)) n + if p 0xFFFFFFFF#32 then M - m else 0 := by
    intro p _
    rw [← hpack.count p, hm]
    obtain ⟨d, rfl⟩ := Nat.exists_eq_add_of_le hM
    rw [Nat.count_add]
    congr 1
    rw [count_card, Nat.add_sub_cancel_left]
    have : (range d).filter (fun t => p (a (m + t))) = if p 0xFFFFFFFF#32 then range d else ∅ := by
      split_ifs with hp
      · refine Finset.filter_true_of_mem fun t ht => ?_
        rw [hfill _ (Nat.le_add_right _ _) (by have := mem_range.1 ht; omega)]; exact hp
      · refine Finset.filter_false_of_mem fun t ht => ?_
        rw [hfill _ (Nat.le_add_right _ _) (by have := mem_range.1 ht; omega)]; exact hp
    rw [this]; split_ifs <;> simp
  rw [hcount (fun w => w < f k), cut (fun w => w < f k)] at h1
  rw [hcount (fun w => w ≤ f k), cut (fun w => w ≤ f k)] at h2
  rw [if_neg (hnlt _), add_zero] at h1
  -- some selected word is the one found or exceeds it
  have hex : ∃ j < n, sel j ∧ f k ≤ key j := by
    by_contra hno
    push Not at hno
    have : Nat.count (fun j => sel j ∧ key j < f k) n = Nat.count sel n := by
      rw [count_card, count_card]
      congr 1
      refine Finset.filter_congr fun j hj => ?_
      constructor
      · exact fun h => h.1
      · intro h
        refine ⟨h, ?_⟩
        have := hno j (mem_range.1 hj) h
        rw [BitVec.le_def] at this; rw [BitVec.lt_def]; omega
    omega
  obtain ⟨j, hj, hsj, hfj⟩ := hex
  constructor
  · refine le_trans (le_of_eq ?_) h1
    rw [count_card, count_card]
    congr 1
    refine Finset.filter_congr fun i hi => ?_
    constructor
    · intro h
      refine ⟨hdown i j (mem_range.1 hi) hj hsj ?_, h⟩
      rw [BitVec.le_def] at hfj ⊢; rw [BitVec.lt_def] at h; omega
    · exact fun h => h.2
  · have hle : Nat.count (fun i => sel i ∧ key i ≤ f k) n ≤ Nat.count (fun i => key i ≤ f k) n := by
      rw [count_card, count_card]
      refine Finset.card_le_card fun i hi => ?_
      simp only [mem_filter] at hi ⊢
      exact ⟨hi.1, hi.2.2⟩
    by_cases hmx : 0xFFFFFFFF#32 ≤ f k
    · have : Nat.count sel n ≤ Nat.count (fun i => key i ≤ f k) n := by
        rw [count_card, count_card]
        refine Finset.card_le_card fun i hi => ?_
        simp only [mem_filter] at hi ⊢
        refine ⟨hi.1, ?_⟩
        have := hmax (key i); rw [BitVec.le_def] at this hmx ⊢; omega
      omega
    · rw [if_neg hmx] at h2
      omega

end Cert.Count
-- ==== Proof.Words.lean ====
/-
  The words: the key a float word is sorted by, its inverse, the host's top-k as "the k-th smallest key", and the number of
  rows the radix passes run over.
-/
module

public import proofs.«01_k».proof.Proof.Count
public import Idealize.ShloMosaic.PureOps
public import Idealize.ShloMosaic.PureOps.BitExact
public import Idealize.ShloMosaic.Lib.SortFacts

@[expose] public section

namespace Cert.Words

open Idealize.ShloMosaic Cert.Count

/-- The key of a float word: the complement of its total order key, so that the greatest float has the least key. -/
def key (u : BitVec 32) : BitVec 32 := ~~~ totalOrderKey u

/-- The float word of a key. -/
def unkey (k : BitVec 32) : BitVec 32 := if (~~~ k).msb then (~~~ k) ^^^ 0x80000000#32 else ~~~ (~~~ k)

theorem sshiftRight_31 (u : BitVec 32) : u.sshiftRight 31 = if u.msb then BitVec.allOnes 32 else 0#32 := by
  cases h : u.msb
  · rw [BitVec.sshiftRight_eq_of_msb_false h]
    apply BitVec.eq_of_toNat_eq
    have := BitVec.msb_eq_false_iff_two_mul_lt.mp h
    simp only [BitVec.toNat_ushiftRight, Nat.shiftRight_eq_div_pow, Bool.false_eq_true, if_false, BitVec.toNat_ofNat]
    omega
  · rw [BitVec.sshiftRight_eq_of_msb_true h]
    apply BitVec.eq_of_toNat_eq
    have := BitVec.msb_eq_true_iff_two_mul_ge.mp h
    have hl := u.isLt
    simp only [BitVec.toNat_not, BitVec.toNat_ushiftRight, Nat.shiftRight_eq_div_pow, if_true, BitVec.toNat_allOnes]
    omega

/-- The kernel's spelling of the key. -/
theorem key_spelled (u : BitVec 32) : (u ^^^ (u.sshiftRight 31 ||| 0x80000000#32)) ^^^ 0xFFFFFFFF#32 = key u := by
  rw [sshiftRight_31]
  unfold key totalOrderKey
  have hall : (0xFFFFFFFF#32 : BitVec 32) = BitVec.allOnes 32 := by decide
  rw [hall, BitVec.xor_allOnes]
  congr 1
  cases h : u.msb
  · simp only [Bool.false_eq_true, if_false]
    apply BitVec.eq_of_getLsbD_eq
    intro i hi
    have hmin : (BitVec.intMin 32) = 0x80000000#32 := by decide
    rw [hmin, BitVec.zero_or, BitVec.getLsbD_xor, BitVec.getLsbD_or]
    have hm : (0x80000000#32 : BitVec 32).getLsbD i = decide (i = 31) := by
      have : ∀ i : Fin 32, (0x80000000#32 : BitVec 32).getLsbD i = decide (i.val = 31) := by decide
      exact this ⟨i, hi⟩
    rw [hm]
    by_cases h31 : i = 31
    · subst h31
      rw [BitVec.msb_eq_getLsbD_last] at h
      simp at h ⊢; exact h
    · simp [h31]
  · simp only [if_true]
    have : (BitVec.allOnes 32 ||| 0x80000000#32) = BitVec.allOnes 32 := by decide
    rw [this, BitVec.xor_allOnes]

theorem msb_totalOrderKey (u : BitVec 32) : (totalOrderKey u).msb = !u.msb := by
  unfold totalOrderKey
  cases h : u.msb
  · simp [BitVec.msb_or, BitVec.msb_intMin, h]
  · simp [BitVec.msb_not, h]

theorem unkey_key (u : BitVec 32) : unkey (key u) = u := by
  unfold unkey key
  rw [BitVec.not_not, msb_totalOrderKey]
  unfold totalOrderKey
  cases h : u.msb
  · simp only [Bool.not_false, if_true, Bool.false_eq_true, if_false]
    apply BitVec.eq_of_getLsbD_eq
    intro i hi
    have hmin : (BitVec.intMin 32) = 0x80000000#32 := by decide
    rw [hmin, BitVec.getLsbD_xor, BitVec.getLsbD_or]
    have hm : (0x80000000#32 : BitVec 32).getLsbD i = decide (i = 31) := by
      have : ∀ i : Fin 32, (0x80000000#32 : BitVec 32).getLsbD i = decide (i.val = 31) := by decide
      exact this ⟨i, hi⟩
    rw [hm]
    by_cases h31 : i = 31
    · subst h31
      rw [BitVec.msb_eq_getLsbD_last] at h
      simp at h ⊢; exact h
    · simp [h31]
  · simp

theorem key_inj {u v : BitVec 32} (h : key u = key v) : u = v := by rw [← unkey_key u, h, unkey_key]

/-- The kernel's spelling of the inverse. -/
theorem unkey_spelled (k : BitVec 32) :
    (if IntOp.cmpi .slt (k ^^^ 0xFFFFFFFF#32) 0#32 = 1#1 then (k ^^^ 0xFFFFFFFF#32) ^^^ 0x80000000#32
      else (k ^^^ 0xFFFFFFFF#32) ^^^ 0xFFFFFFFF#32) = unkey k := by
  have hall : (0xFFFFFFFF#32 : BitVec 32) = BitVec.allOnes 32 := by decide
  rw [hall, BitVec.xor_allOnes, BitVec.xor_allOnes]
  unfold unkey IntOp.cmpi
  simp only [BitVec.slt_zero_iff_msb_cond, BitVec.slt_zero_eq_msb]
  cases (~~~ k).msb <;> simp

/-- The host's total order compare, greater than, is "has the smaller key". -/
theorem gt_eq (a b : BitVec 32) : (Bits.cmpfTotal .f32 .gt a b = 1#1) ↔ key a < key b := by
  have h : Bits.cmpfTotal .f32 .gt a b = IntOp.cmpi .ugt (totalOrderKey a) (totalOrderKey b) := rfl
  rw [h]
  unfold IntOp.cmpi key
  rw [BitVec.lt_def, BitVec.toNat_not, BitVec.toNat_not]
  have ha := (totalOrderKey a).isLt
  have hb := (totalOrderKey b).isLt
  simp only [BitVec.ult]
  by_cases hlt : (totalOrderKey b).toNat < (totalOrderKey a).toNat
  · simp [hlt]; omega
  · simp [hlt]; omega

/-! ## The host's top-k -/

/-- A sort by the total order, greatest first, lists the keys in ascending order: its k-th word has the k-th smallest key. -/
theorem kth_sorted {n : ℕ} (x : Fin n → BitVec 32) (k : Fin n) (g : ℕ → BitVec 32) (hg : ∀ j : Fin n, g j = key (x j)) :
    Kth g n k (key (x (sortedFrom (fun a b => Bits.cmpfTotal .f32 .gt (x a) (x b) == 1#1) k))) := by
  set B : Fin n → Fin n → Bool := fun a b => Bits.cmpfTotal .f32 .gt (x a) (x b) == 1#1 with hB
  have hBt : ∀ a b, B a b = true ↔ key (x a) < key (x b) := fun a b => by
    rw [hB]; simp only [beq_iff_eq]; exact gt_eq _ _
  have hBf : ∀ a b, B a b = false ↔ key (x b) ≤ key (x a) := fun a b => by
    rw [← Bool.not_eq_true, hBt, BitVec.lt_def, BitVec.le_def]; omega
  have hno := sortedFrom_noInversion B B
    (fun a b h => by rw [hBt, BitVec.lt_def] at h; rw [hBf, BitVec.le_def]; omega) (fun a b h => h)
    (fun a b c h1 h2 => by rw [hBf, BitVec.le_def] at h1 h2 ⊢; omega)
  set σ := sortedFrom B with hσ
  let f : ℕ → BitVec 32 := fun t => if h : t < n then key (x (σ ⟨t, h⟩)) else 0#32
  have hf : ∀ t (h : t < n), f t = key (x (σ ⟨t, h⟩)) := fun t h => dif_pos h
  have hs : ∀ p q, p ≤ q → q < n → f p ≤ f q := by
    intro p q hpq hq
    rw [hf p (by omega), hf q hq]
    rcases hpq.eq_or_lt with rfl | hlt
    · exact BitVec.le_refl _
    · exact (hBf _ _).1 (hno ⟨p, by omega⟩ ⟨q, hq⟩ hlt)
  have hk := kth_of_sorted hs k.isLt
  rw [hf k k.isLt] at hk
  -- the sort permutes: the counts are the same
  have hcount : ∀ (p : BitVec 32 → Prop) [DecidablePred p], Nat.count (fun t => p (f t)) n = Nat.count (fun t => p (g t)) n := by
    intro p _
    rw [count_card, count_card]
    have hinj : Function.Injective σ := sortedFrom_injective B
    have hsurj : Function.Surjective σ := Finite.surjective_of_injective hinj
    refine Finset.card_bij (fun t ht => (σ ⟨t, Finset.mem_range.1 (Finset.mem_filter.1 ht).1⟩).val) ?_ ?_ ?_
    · intro t ht
      have h1 := Finset.mem_range.1 (Finset.mem_filter.1 ht).1
      have h2 := (Finset.mem_filter.1 ht).2
      rw [Finset.mem_filter, Finset.mem_range]
      refine ⟨Fin.isLt _, ?_⟩
      rw [hf t h1] at h2; rw [hg]; exact h2
    · intro a ha b hb hab
      have := hinj (Fin.ext hab)
      exact congrArg Fin.val this
    · intro b hb
      have h1 := Finset.mem_range.1 (Finset.mem_filter.1 hb).1
      have h2 := (Finset.mem_filter.1 hb).2
      obtain ⟨a, ha⟩ := hsurj ⟨b, h1⟩
      refine ⟨a.val, ?_, by simp [ha]⟩
      rw [Finset.mem_filter, Finset.mem_range]
      refine ⟨a.isLt, ?_⟩
      rw [hf a.val a.isLt]; simp only [Fin.eta, ha]
      rw [← hg ⟨b, h1⟩]; exact h2
  unfold Kth at hk ⊢
  rw [hcount (fun w => w < key (x (σ k))), hcount (fun w => w ≤ key (x (σ k)))] at hk
  exact hk

/-! ## Words from numbers -/

theorem toNat_ofNat_of_lt {n : ℕ} (h : n < 4294967296) : (BitVec.ofNat 32 n).toNat = n := by
  rw [BitVec.toNat_ofNat]; exact Nat.mod_eq_of_lt h

theorem toInt_ofNat_of_lt {n : ℕ} (h : n < 2147483648) : (BitVec.ofNat 32 n).toInt = n := by
  rw [BitVec.toInt_eq_toNat_of_lt] <;> rw [toNat_ofNat_of_lt (by omega)]; omega

theorem ofNat_add (a b : ℕ) : BitVec.ofNat 32 a + BitVec.ofNat 32 b = BitVec.ofNat 32 (a + b) := by
  rw [BitVec.ofNat_add]

theorem ofNat_mul (a b : ℕ) : BitVec.ofNat 32 a * BitVec.ofNat 32 b = BitVec.ofNat 32 (a * b) := by
  apply BitVec.eq_of_toNat_eq; simp [Nat.mul_mod]

theorem ofNat_add_sub (a b : ℕ) : BitVec.ofNat 32 (a + b) - BitVec.ofNat 32 b = BitVec.ofNat 32 a := by
  rw [BitVec.ofNat_add, BitVec.add_sub_cancel]

theorem eq_ofNat (w : BitVec 32) : w = BitVec.ofNat 32 w.toNat := (BitVec.ofNat_toNat 32 w).symm ▸ by simp

/-- The printed quotient rounded down, of a positive number of 31 bits by 16. -/
theorem div16 {n : ℕ} (h0 : 0 < n) (h : n < 2147483648) :
    Scalar.select (Scalar.andi (Scalar.cmpi .ne (Scalar.subi (Scalar.extui (Scalar.cmpi .sgt (BitVec.ofNat 32 n) 0#32)) (Scalar.extui (Scalar.cmpi .slt (BitVec.ofNat 32 n) 0#32)))
        (Scalar.subi (Scalar.extui (Scalar.cmpi .sgt 16#32 0#32)) (Scalar.extui (Scalar.cmpi .slt 16#32 0#32))))
        (Scalar.cmpi .ne (Scalar.remsi (BitVec.ofNat 32 n) 16#32) 0#32))
      (Scalar.subi (Scalar.divsi (BitVec.ofNat 32 n) 16#32) 1#32) (Scalar.divsi (BitVec.ofNat 32 n) 16#32)
      = BitVec.ofNat 32 (n / 16) := by
  have hi := toInt_ofNat_of_lt h
  have h1 : Scalar.cmpi .sgt (BitVec.ofNat 32 n) 0#32 = 1#1 := by
    unfold Scalar.cmpi IntOp.cmpi; simp only [BitVec.slt, hi, BitVec.toInt_zero]; rw [decide_eq_true (by omega)]; rfl
  have h2 : Scalar.cmpi .slt (BitVec.ofNat 32 n) 0#32 = 0#1 := by
    unfold Scalar.cmpi IntOp.cmpi; simp only [BitVec.slt, hi, BitVec.toInt_zero]; rw [decide_eq_false (by omega)]; rfl
  rw [h1, h2]
  have h3 : Scalar.cmpi .ne (Scalar.subi (Scalar.extui 1#1) (Scalar.extui 0#1))
      (Scalar.subi (Scalar.extui (Scalar.cmpi .sgt 16#32 0#32)) (Scalar.extui (Scalar.cmpi .slt 16#32 0#32))) = 0#1 := by decide
  rw [h3]
  have h4 : ∀ y : BitVec 1, Scalar.andi 0#1 y = 0#1 := by decide
  rw [h4]
  unfold Scalar.select
  rw [if_neg (by decide)]
  unfold Scalar.divsi IntOp.divsi
  rw [if_neg (by unfold IntOp.SDivCorner; rintro (h | ⟨_, h⟩) <;> exact absurd h (by decide))]
  have hm : (BitVec.ofNat 32 n).msb = false := by
    rw [BitVec.msb_eq_false_iff_two_mul_lt, toNat_ofNat_of_lt (by omega)]; omega
  have hm' : (16#32 : BitVec 32).msb = false := by decide
  rw [BitVec.sdiv_eq, hm, hm']
  apply BitVec.eq_of_toNat_eq
  simp only [BitVec.udiv_eq, BitVec.toNat_udiv]
  rw [toNat_ofNat_of_lt (by omega), toNat_ofNat_of_lt (by omega), toNat_ofNat_of_lt (by omega)]

end Cert.Words
-- ==== Proof.Setup.lean ====
/-
  The kernel as the launch theorem sees it, and a tile's buffers held as sequences: what a load, a store, an indexed load
  and an indexed store do to a rank-one buffer of the tile, with the contents a function on the naturals.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton
public import proofs.«01_k».proof.Proof.Words

@[expose] public section

noncomputable section

namespace Cert.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The program, at bit patterns -/

abbrev ΛP : Labels := Pipeline.Sig Λ₀ (Fin 0) fun p => (pcfgs (F := Bits) p).Adm
abbrev K : SparseCore.Cfg τ sig ΛP 1 := sc (F := Bits)
abbrev D : Defs nD τ sig (Elt Bits) ΛP := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt Bits) ℕ UU ℕ

/-- The SparseCore and the subcore of grid point `L`. -/
abbrev cV (L : grid0.Coords) : Fin τ.nSC := (L 0).castLE hcore0
abbrev jV (L : grid0.Coords) : Fin τ.nSub := (L 1).castLE hsub0

/-- The programs of the tile at `L`. -/
abbrev TileProg (L : grid0.Coords) (α : Type) : Type 1 := Prog (TpuEff nD τ sig (Elt Bits) Λ₀ (.scVector (cV L) (jV L))) α

/-- The weakest precondition of a tile's program on device `d`. -/
abbrev twp (d : Dev nD) (L : grid0.Coords) {α : Type} (p : TileProg L α) (Q : α → sProp 𝕄) : sProp 𝕄 :=
  wp frame (wpE (defs₀ (F := Bits)) 𝒱₀ (V d (cV L) (jV L)) none) Set.univ p Q

/-! ## A rank-one buffer held as a sequence -/

section Held

variable (d : Dev nD) (L : grid0.Coords) {n : ℕ} {e : EltTy}

/-- The tile holds the buffer of `m` whole, its element `j` being `g j`. -/
def Held (m : Memref sig .scVector .vmem ⟨1, ![n]⟩ e) (g : ℕ → Elt Bits e) : sProp 𝕄 :=
  iprop(∃ f : Buf (Elt Bits) (m.view.loc (V d (cV L) (jV L))), ⌜∀ j : (⟨1, ![n]⟩ : Shape).Idx, m.view.read (Elt Bits) f j = g (j 0).val⌝
    ∗ m.view.loc (V d (cV L) (jV L)) ↦[m.view.set]{fullShare} f)

variable {d L}

theorem held_congr {m : Memref sig .scVector .vmem ⟨1, ![n]⟩ e} {g g' : ℕ → Elt Bits e} (h : ∀ j < n, g j = g' j) :
    Held d L m g ⊢ Held d L m g' := by
  unfold Held
  iintro ⟨%f, %hf, H⟩
  iexists f
  isplitr
  · ipureintro; intro j; rw [hf j]; exact h _ (j 0).isLt
  · iexact H

/-- Lane `k` of a vector of sixteen. -/
def lane (k : ℕ) : S16.Idx := fun a => ⟨k % 16, by rw [Fin.eq_zero a]; exact Nat.mod_lt _ (by decide)⟩

theorem lane_val (x : S16.Idx) : lane (x 0).val = x := by
  funext a
  apply Fin.ext
  have ha : a = 0 := Fin.eq_zero a
  subst ha
  exact Nat.mod_eq_of_lt (x 0).isLt

theorem lane_coord {k : ℕ} (hk : k < 16) (a : Fin 1) : (lane k a).val = k := Nat.mod_eq_of_lt hk

/-- Equal coordinates, equal index. -/
theorem idx_ext {j j' : (⟨1, ![n]⟩ : Shape).Idx} (h : (j 0).val = (j' 0).val) : j = j' := by
  funext a
  have ha : a = 0 := Fin.eq_zero a
  subst ha
  exact Fin.ext h

variable {α : Type} {Q : α → sProp 𝕄}

/-- A load of sixteen elements from `o`. -/
theorem held_load {m : Memref sig .scVector .vmem ⟨1, ![n]⟩ e} {off : Fin 1 → ℕ} (o : ℕ) (ho : off 0 = o)
    {inb : ∀ a, off a + S16.size a ≤ (⟨1, ![n]⟩ : Shape).size a} {hl : m.view.LoadsAt (Rect.unit (s := ⟨1, ![n]⟩) off S16.size inb).toLoadRect}
    {k : (S16.Idx → Elt Bits e) → TileProg L α} {g : ℕ → Elt Bits e} :
    Held d L m g ⊢ iprop((Held d L m g -∗ twp d L (k fun x => g (o + (x 0).val)) Q)
      -∗ twp d L (.op (.load m (Rect.unit (s := ⟨1, ![n]⟩) off S16.size inb).toLoadRect hl) k) Q) := by
  unfold Held
  iintro ⟨%f, %hf, H⟩ Hk
  iapply (wp_load 𝒱₀ (V d (cV L) (jV L)) none Set.univ (m.view.setOn_subset_set _)) $$ H
  iintro H
  have hv : m.view.readAt (Elt Bits) (Rect.unit (s := ⟨1, ![n]⟩) off S16.size inb).toLoadRect f = fun x => g (o + (x 0).val) := by
    funext x
    rw [View.readAt_apply, hf, LoadRect.idx_apply]
    subst ho
    show g (off 0 + 1 * (x 0).val) = _
    rw [one_mul]
  rw [hv]
  iapply Hk
  iexists f
  isplitr
  · ipureintro; exact hf
  · iexact H

/-- A store of sixteen elements at `o`. -/
theorem held_store {m : Memref sig .scVector .vmem ⟨1, ![n]⟩ e} {off : Fin 1 → ℕ} (o : ℕ) (ho : off 0 = o)
    {inb : ∀ a, off a + S16.size a ≤ (⟨1, ![n]⟩ : Shape).size a} {w : S16.Idx → Elt Bits e}
    {hx : (m.access (Rect.unit (s := ⟨1, ![n]⟩) off S16.size inb)).Stores Finset.univ}
    {hm : (Finset.univ : Finset S16.Idx) = Finset.univ ∨ ∀ a, (Rect.unit (s := ⟨1, ![n]⟩) off S16.size inb).stride a = 1}
    {k : PUnit → TileProg L α} {g : ℕ → Elt Bits e} :
    Held d L m g ⊢ iprop((Held d L m (fun j => if o ≤ j ∧ j < o + 16 then w (lane (j - o)) else g j) -∗ twp d L (k ⟨⟩) Q)
      -∗ twp d L (.op (.store m (Rect.unit (s := ⟨1, ![n]⟩) off S16.size inb) w Finset.univ hx hm) k) Q) := by
  unfold Held
  iintro ⟨%f, %hf, H⟩ Hk
  iapply (wp_store (defs := defs₀ (F := Bits)) 𝒱₀ (V d (cV L) (jV L)) none Set.univ (m := m)
    (r := Rect.unit (s := ⟨1, ![n]⟩) off S16.size inb) (f := f) (S := m.view.set) ((View.setOn_subset_set _ _).trans (m.view.set_slice_subset _))) $$ H
  iintro H
  iapply Hk
  iexists _
  isplitr; swap
  · iexact H
  ipureintro
  intro j
  subst ho
  beta_reduce
  by_cases hj : off 0 ≤ (j 0).val ∧ (j 0).val < off 0 + 16
  · rw [if_pos hj]
    have he : (Rect.unit (s := ⟨1, ![n]⟩) off S16.size inb).emb (lane ((j 0).val - off 0)) = j := by
      apply idx_ext
      show off 0 + 1 * (lane ((j 0).val - off 0) 0).val = (j 0).val
      rw [lane_coord (by omega)]; omega
    conv_lhs => rw [← he]
    exact View.read_slice_write_emb (v := m.view) (Rect.unit (s := ⟨1, ![n]⟩) off S16.size inb) f w (Finset.mem_univ _)
  · rw [if_neg hj, ← hf j]
    refine View.read_slice_write_of_not_mem (v := m.view) (Rect.unit (s := ⟨1, ![n]⟩) off S16.size inb) f w Finset.univ fun hm => hj ?_
    obtain ⟨x, -, hx⟩ := Finset.mem_map.1 hm
    have : off 0 + 1 * (x 0).val = (j 0).val := by rw [← hx]; rfl
    have hx16 : (x 0).val < 16 := (x 0).isLt
    omega

theorem access_whole_set (m : Memref sig .scVector .vmem ⟨1, ![n]⟩ e) : (m.access (.whole _)).set = m.view.set := by
  show (m.view.slice _).set = _
  rw [View.set_slice, Rect.set_whole]; rfl

theorem access_whole_read (m : Memref sig .scVector .vmem ⟨1, ![n]⟩ e) (f : Buf (Elt Bits) (m.view.loc (V d (cV L) (jV L)))) :
    (m.access (.whole _)).read (Elt Bits) f = m.view.read (Elt Bits) f := by
  funext x
  show m.view.read (Elt Bits) f ((Rect.whole _).emb x) = _
  rw [Rect.emb_whole_apply]

/-- An indexed load: lane by lane the element at the lane's index. -/
theorem held_loadIdx {m : Memref sig .scVector .vmem ⟨1, ![n]⟩ e} {ix : IVec S16 32}
    {h : ∀ a x, ((![ix] : Fin 1 → IVec S16 32) a x).toNat < (⟨1, ![n]⟩ : Shape).size a} {hl : m.view.Loads}
    {k : Vec Bits S16 e → TileProg L α} {g : ℕ → Elt Bits e} :
    Held d L m g ⊢ iprop((Held d L m g -∗ twp d L (k fun x => g (ix x).toNat) Q)
      -∗ twp d L (SparseCore.vectorLoadIdx m ![ix] h hl >>= k) Q) := by
  unfold Held
  iintro ⟨%f, %hf, H⟩ Hk
  iapply (SparseCore.wp_vectorLoadIdx (defs := defs₀ (F := Bits)) 𝒱₀ (V d (cV L) (jV L)) none Set.univ (base := m) (S := m.view.set)
    (q := fullShare) (f := f) (access_whole_set m).le) $$ H
  iintro H
  rw [access_whole_read]
  have hv : loadIdx (m.view.read (Elt Bits) f) ![ix] h = fun x => g (ix x).toNat := by
    funext x
    show m.view.read (Elt Bits) f _ = _
    rw [hf]; rfl
  rw [hv]
  iapply Hk
  iexists f
  isplitr
  · ipureintro; exact hf
  · iexact H

/-- Steps taken in turn, each of which either acts (`A`) and leaves `w k` at `j`, or leaves `j` as it was: some acting step's
    element is left at `j`, or no step acted and `j` is as it was. -/
theorem foldl_set {ι J E : Type} (step : (J → E) → ι → J → E) (A : ι → Prop) (w : ι → E) (j : J)
    (hA : ∀ g k, A k → step g k j = w k) (hN : ∀ g k, ¬ A k → step g k j = g j) (l : List ι) :
    ∀ g : J → E, (∃ k, A k ∧ l.foldl step g j = w k) ∨ ((∀ k ∈ l, ¬ A k) ∧ l.foldl step g j = g j) := by
  induction l with
  | nil => exact fun g => .inr ⟨fun k hk => (List.not_mem_nil hk).elim, rfl⟩
  | cons k l ih =>
    intro g
    rw [List.foldl_cons]
    rcases ih (step g k) with h | ⟨h1, h2⟩
    · exact .inl h
    · by_cases hk : A k
      · exact .inl ⟨k, hk, h2.trans (hA g k hk)⟩
      · refine .inr ⟨fun k' hk' => ?_, h2.trans (hN g k hk)⟩
        rcases List.mem_cons.1 hk' with rfl | hk'
        · exact hk
        · exact h1 k' hk'

/-- The same where an acting step changes the element at `j` by `w k` and at most one step acts. -/
theorem foldl_upd {ι J E : Type} (step : (J → E) → ι → J → E) (A : ι → Prop) (w : ι → E → E) (j : J)
    (hA : ∀ g k, A k → step g k j = w k (g j)) (hN : ∀ g k, ¬ A k → step g k j = g j) (hone : ∀ k k', A k → A k' → k = k')
    (l : List ι) : ∀ (_ : l.Nodup) (g : J → E),
      (∃ k, A k ∧ l.foldl step g j = w k (g j)) ∨ ((∀ k ∈ l, ¬ A k) ∧ l.foldl step g j = g j) := by
  induction l with
  | nil => exact fun _ g => .inr ⟨fun k hk => (List.not_mem_nil hk).elim, rfl⟩
  | cons k l ih =>
    intro hnd g
    obtain ⟨hkl, hnd⟩ := List.nodup_cons.1 hnd
    rw [List.foldl_cons]
    by_cases hk : A k
    · left
      refine ⟨k, hk, ?_⟩
      have hrest : l.foldl step (step g k) j = step g k j := by
        have hrest' : ∀ (l : List ι) (_ : k ∉ l) (g0 : J → E), l.foldl step g0 j = g0 j := by
          intro l
          induction l with
          | nil => exact fun _ _ => rfl
          | cons k' l ih' =>
            intro hkl g0
            rw [List.foldl_cons, ih' (fun h => hkl (List.mem_cons_of_mem _ h)) (step g0 k')]
            refine hN _ _ fun hk' => hkl ?_
            rw [hone k k' hk hk']
            exact List.mem_cons_self
        exact hrest' l hkl _
      rw [hrest, hA g k hk]
    · rcases ih hnd (step g k) with ⟨k', hk', h⟩ | ⟨h1, h2⟩
      · exact .inl ⟨k', hk', by rw [h, hN g k hk]⟩
      · refine .inr ⟨fun k' hk' => ?_, h2.trans (hN g k hk)⟩
        rcases List.mem_cons.1 hk' with rfl | hk'
        · exact hk
        · exact h1 k' hk'

/-- One lane's step of an indexed store. -/
def laneStep {s : Shape} {d : Fin 1 → ℕ} (idxs : Fin s.rank → IVec ⟨1, d⟩ 32) (v : Vec Bits ⟨1, d⟩ e) (mask : IVec ⟨1, d⟩ 1) (add : Bool)
    (h : ∀ a x, (idxs a x).toNat < s.size a) (g : Vec Bits s e) (k : Fin (d 0)) : Vec Bits s e :=
  let x := Shape.ofLane k
  if mask x = 1 then
    let i := idxAt idxs h x
    let y := if add then Elt.idxAdd e (g i) (v x) else v x
    fun j => if (∀ a, (j a).val = (i a).val) then y else g j
  else g

theorem storeIdx_eq {s : Shape} {d : Fin 1 → ℕ} (f : Vec Bits s e) (idxs : Fin s.rank → IVec ⟨1, d⟩ 32) (v : Vec Bits ⟨1, d⟩ e)
    (mask : IVec ⟨1, d⟩ 1) (add : Bool) (h : ∀ a x, (idxs a x).toNat < s.size a) :
    storeIdx f idxs v mask add h = (List.finRange (d 0)).foldl (laneStep idxs v mask add h) f := by
  unfold storeIdx
  congr 1
  funext g k
  unfold laneStep
  dsimp only
  split
  · funext j
    split <;> rfl
  · rfl

/-- What an indexed store leaves: at each index a lane wrote, some such lane's element. -/
theorem storeIdx_set (f : Vec Bits ⟨1, ![n]⟩ e) (ix : IVec S16 32) (v : Vec Bits S16 e) (mask : IVec S16 1)
    (h : ∀ a x, ((![ix] : Fin 1 → IVec S16 32) a x).toNat < (⟨1, ![n]⟩ : Shape).size a) (j : (⟨1, ![n]⟩ : Shape).Idx) :
    (∃ x : S16.Idx, mask x = 1#1 ∧ (ix x).toNat = (j 0).val ∧ storeIdx f ![ix] v mask false h j = v x)
    ∨ ((∀ x : S16.Idx, mask x = 1#1 → (ix x).toNat ≠ (j 0).val) ∧ storeIdx f ![ix] v mask false h j = f j) := by
  have hA : ∀ g (k : Fin 16), (mask (Shape.ofLane (d := ![16]) k) = 1#1 ∧ (ix (Shape.ofLane (d := ![16]) k)).toNat = (j 0).val) →
      laneStep (s := ⟨1, ![n]⟩) (d := ![16]) ![ix] v mask false h g k j = v (Shape.ofLane (d := ![16]) k) := by
    rintro g k ⟨hm, hi⟩
    refine (congrFun (if_pos hm) j).trans (if_pos fun a => ?_)
    have ha : a = 0 := Fin.eq_zero a
    subst ha
    exact hi.symm
  have hN : ∀ g (k : Fin 16), ¬ (mask (Shape.ofLane (d := ![16]) k) = 1#1 ∧ (ix (Shape.ofLane (d := ![16]) k)).toNat = (j 0).val) →
      laneStep (s := ⟨1, ![n]⟩) (d := ![16]) ![ix] v mask false h g k j = g j := by
    intro g k hn
    by_cases hm : mask (Shape.ofLane (d := ![16]) k) = 1#1
    · exact (congrFun (if_pos hm) j).trans (if_neg fun ha => hn ⟨hm, (ha 0).symm⟩)
    · exact congrFun (if_neg hm) j
  rcases foldl_set _ _ _ j hA hN (List.finRange 16) f with ⟨k, ⟨h1, h2⟩, h3⟩ | ⟨h1, h2⟩
  · exact .inl ⟨_, h1, h2, (congrFun (storeIdx_eq _ _ _ _ _ _) j).trans h3⟩
  · refine .inr ⟨fun x hx hi => ?_, (congrFun (storeIdx_eq _ _ _ _ _ _) j).trans h2⟩
    have hx' : Shape.ofLane (d := ![16]) (x 0) = x := idx_ext rfl
    exact h1 (x 0) (List.mem_finRange _) ⟨hx'.symm ▸ hx, hx'.symm ▸ hi⟩

/-- What an unmasked adding store leaves where no two lanes share an index. -/
theorem storeIdx_add (f : Vec Bits ⟨1, ![n]⟩ .i32) (ix : IVec S16 32) (v : Vec Bits S16 .i32)
    (h : ∀ a x, ((![ix] : Fin (⟨1, ![n]⟩ : Shape).rank → IVec S16 32) a x).toNat < (⟨1, ![n]⟩ : Shape).size a)
    (hinj : ∀ x y, (ix x).toNat = (ix y).toNat → x = y) (j : (⟨1, ![n]⟩ : Shape).Idx) :
    (∃ x : S16.Idx, (ix x).toNat = (j 0).val ∧ storeIdx f ![ix] v (fun _ => 1#1) true h j = BitVec.add (f j) (v x))
    ∨ ((∀ x : S16.Idx, (ix x).toNat ≠ (j 0).val) ∧ storeIdx f ![ix] v (fun _ => 1#1) true h j = f j) := by
  have hA : ∀ (g : Vec Bits ⟨1, ![n]⟩ .i32) (k : Fin 16), (ix (Shape.ofLane (d := ![16]) k)).toNat = (j 0).val →
      laneStep (s := ⟨1, ![n]⟩) (d := ![16]) ![ix] v (fun _ => 1#1) true h g k j = BitVec.add (g j) (v (Shape.ofLane (d := ![16]) k)) := by
    intro g k hi
    have hj : idxAt ![ix] h (Shape.ofLane (d := ![16]) k) = j := idx_ext hi
    unfold laneStep
    simp only [hj]
    simp [Elt.idxAdd]
  have hN : ∀ (g : Vec Bits ⟨1, ![n]⟩ .i32) (k : Fin 16), ¬ (ix (Shape.ofLane (d := ![16]) k)).toNat = (j 0).val →
      laneStep (s := ⟨1, ![n]⟩) (d := ![16]) ![ix] v (fun _ => 1#1) true h g k j = g j := by
    intro g k hn
    unfold laneStep
    refine if_neg fun ha => hn ?_
    exact (ha 0).symm
  have h1' : ∀ k k' : Fin 16, (ix (Shape.ofLane (d := ![16]) k)).toNat = (j 0).val → (ix (Shape.ofLane (d := ![16]) k')).toNat = (j 0).val → k = k' :=
    fun k k' hk hk' => congrFun (hinj _ _ (hk.trans hk'.symm)) 0
  rcases foldl_upd (laneStep (s := ⟨1, ![n]⟩) (d := ![16]) ![ix] v (fun _ => 1#1) true h) (fun k : Fin 16 => (ix (Shape.ofLane (d := ![16]) k)).toNat = (j 0).val)
    (fun k y => BitVec.add y (v (Shape.ofLane (d := ![16]) k))) j hA hN h1' (List.finRange 16) (List.nodup_finRange _) f
    with ⟨k, h2, h3⟩ | ⟨h1, h2⟩
  · exact .inl ⟨_, h2, (congrFun (storeIdx_eq _ _ _ _ _ _) j).trans h3⟩
  · refine .inr ⟨fun x hi => ?_, (congrFun (storeIdx_eq _ _ _ _ _ _) j).trans h2⟩
    have hx' : Shape.ofLane (d := ![16]) (x 0) = x := idx_ext rfl
    exact h1 (x 0) (List.mem_finRange _) (hx'.symm ▸ hi)

/-- A masked indexed store, into any sequence that has the written elements where they were written and the old ones elsewhere. -/
theorem held_storeIdx {m : Memref sig .scVector .vmem ⟨1, ![n]⟩ e} {ix : IVec S16 32} {v : Vec Bits S16 e} {mask : IVec S16 1}
    {h : ∀ a x, ((![ix] : Fin 1 → IVec S16 32) a x).toNat < (⟨1, ![n]⟩ : Shape).size a} {hs : (m.access (.whole _)).Stores Finset.univ}
    {k : PUnit → TileProg L α} {g : ℕ → Elt Bits e} (g' : ℕ → Elt Bits e)
    (h1 : ∀ x, mask x = 1#1 → g' (ix x).toNat = v x)
    (h2 : ∀ j < n, (∀ x, mask x = 1#1 → (ix x).toNat ≠ j) → g' j = g j) :
    Held d L m g ⊢ iprop((Held d L m g' -∗ twp d L (k ⟨⟩) Q)
      -∗ twp d L (SparseCore.vectorStoreIdx m ![ix] v mask false h hs >>= k) Q) := by
  unfold Held
  iintro ⟨%f, %hf, H⟩ Hk
  rw [← access_whole_set m]
  iapply (SparseCore.wp_vectorStoreIdx (defs := defs₀ (F := Bits)) 𝒱₀ (V d (cV L) (jV L)) none Set.univ (base := m) (f := f)) $$ H
  iintro H
  iapply Hk
  iexists _
  isplitr; swap
  · iexact H
  ipureintro
  intro j
  rw [access_whole_read, ← access_whole_read (d := d) (L := L), View.read_write_univ]
  rcases storeIdx_set (m.view.read (Elt Bits) f) ix v mask h j with ⟨x, hx, hi, hv⟩ | ⟨hn, hv⟩
  · rw [hv, ← hi, h1 x hx]
  · rw [hv, hf, h2 _ (j 0).isLt hn]

/-- An unmasked adding store through distinct indices. -/
theorem held_storeIdxAdd {m : Memref sig .scVector .vmem ⟨1, ![n]⟩ .i32} {ix : IVec S16 32} {v : Vec Bits S16 .i32}
    {h : ∀ a x, ((![ix] : Fin 1 → IVec S16 32) a x).toNat < (⟨1, ![n]⟩ : Shape).size a} {hs : (m.access (.whole _)).Stores Finset.univ}
    {k : PUnit → TileProg L α} {g : ℕ → BitVec 32} (g' : ℕ → BitVec 32)
    (hinj : ∀ x y, (ix x).toNat = (ix y).toNat → x = y)
    (h1 : ∀ x, g' (ix x).toNat = g (ix x).toNat + v x)
    (h2 : ∀ j < n, (∀ x, (ix x).toNat ≠ j) → g' j = g j) :
    Held d L m g ⊢ iprop((Held d L m g' -∗ twp d L (k ⟨⟩) Q)
      -∗ twp d L (SparseCore.vectorStoreIdx m ![ix] v (fun _ => 1#1) true h hs >>= k) Q) := by
  unfold Held
  iintro ⟨%f, %hf, H⟩ Hk
  rw [← access_whole_set m]
  iapply (SparseCore.wp_vectorStoreIdx (defs := defs₀ (F := Bits)) 𝒱₀ (V d (cV L) (jV L)) none Set.univ (base := m) (f := f)) $$ H
  iintro H
  iapply Hk
  iexists _
  isplitr; swap
  · iexact H
  ipureintro
  intro j
  rw [access_whole_read, ← access_whole_read (d := d) (L := L), View.read_write_univ]
  rcases storeIdx_add (m.view.read (Elt Bits) f) ix v h hinj j with ⟨x, hi, hv⟩ | ⟨hn, hv⟩
  · rw [hv, hf, ← hi, h1 x]; rfl
  · rw [hv, hf, h2 _ (j 0).isLt hn]

end Held

end Cert.Tile
-- ==== Proof.Steps.lean ====
/-
  One trip of each loop of the radix passes, over the tile's buffers held as sequences: clearing sixteen counters, counting
  sixteen digits, turning sixteen counters into offsets, and placing sixteen words.
-/
module

public import proofs.«01_k».proof.Proof.Setup

@[expose] public section

noncomputable section

namespace Cert.Tile

open Cert.Kernel Cert.Kernel.Gen Cert.Count Cert.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

/-! ## Sums along a vector -/

/-- A filtered list of the lanes folded by addition. -/
theorem foldl_add (a : ℕ → ℕ) (v : ℕ → BitVec 32) (hv : ∀ k < 16, v k = BitVec.ofNat 32 (a k)) (j : ℕ) (hj : j < 16) :
    ((List.range 16).filter fun k => decide (0 < k ∧ k ≤ j)).foldl (fun r k => r + v k) (v 0)
      = BitVec.ofNat 32 (∑ k ∈ Finset.range (j + 1), a k) := by
  have h : ∀ n ≤ 16, ((List.range n).filter fun k => decide (0 < k ∧ k ≤ j)).foldl (fun r k => r + v k) (v 0)
      = BitVec.ofNat 32 (∑ k ∈ Finset.range (min n j.succ ⊔ 1), a k) := by
    intro n
    induction n with
    | zero => intro _; simp [hv 0 (by omega)]
    | succ n ih =>
      intro hn
      rw [List.range_succ, List.filter_append, List.foldl_append, ih (by omega)]
      by_cases hk : 0 < n ∧ n ≤ j
      · rw [List.filter_cons_of_pos (by simpa using hk), List.filter_nil, List.foldl_cons, List.foldl_nil, hv n (by omega)]
        rw [show min n j.succ ⊔ 1 = n by omega, show min (n + 1) j.succ ⊔ 1 = n + 1 by omega, Finset.sum_range_succ, ofNat_add]
      · rw [List.filter_cons_of_neg (by simpa using hk), List.filter_nil, List.foldl_nil]
        congr 2
        rcases Nat.eq_zero_or_pos n with rfl | hn0
        · simp
        · have : ¬ n ≤ j := fun h => hk ⟨hn0, h⟩
          rw [show min n j.succ = j.succ by omega, show min (n + 1) j.succ = j.succ by omega]
  rw [h 16 le_rfl]
  congr 2
  rw [show min 16 j.succ ⊔ 1 = j + 1 by omega]

/-- The running sums of a vector of small numbers. -/
theorem scan_sum (v : IVec S16 32) (a : ℕ → ℕ) (hv : ∀ x : S16.Idx, v x = BitVec.ofNat 32 (a (x 0).val)) (x : S16.Idx) :
    scan .sum v x = BitVec.ofNat 32 (∑ k ∈ Finset.range ((x 0).val + 1), a k) := by
  have hx : (x 0).val < 16 := (x 0).isLt
  rw [← foldl_add a (fun k => v (lane k)) (fun k hk => (hv _).trans (by rw [lane_coord hk])) _ hx]
  have hr : List.range 16 = (List.finRange 16).map Fin.val := by decide
  rw [hr, List.filter_map, List.foldl_map]
  unfold scan
  have h0 : v (lane 0) = v (Shape.ofLane (d := ![16]) ⟨0, (x 0).pos⟩) := congrArg v (idx_ext rfl)
  rw [h0]
  have hk : ∀ k : Fin 16, v (lane k.val) = v (Shape.ofLane (d := ![16]) k) :=
    fun k => congrArg v (idx_ext (Nat.mod_eq_of_lt k.isLt))
  simp only [hk]
  rfl

/-- The last of the running sums. -/
theorem scan_last (v : IVec S16 32) (a : ℕ → ℕ) (hv : ∀ x : S16.Idx, v x = BitVec.ofNat 32 (a (x 0).val))
    (h : ∀ a, (![15] : Fin 1 → ℕ) a < S16.size a) :
    extractAt ![15] (scan .sum v) h = BitVec.ofNat 32 (∑ k ∈ Finset.range 16, a k) :=
  scan_sum v a hv _

/-! ## The loop rule -/

section Steps

variable {d : Dev nD} {L : grid0.Coords} {α : Type} {Q : α → sProp 𝕄}

/-- A counted loop at the head of a tile's program, by an invariant. -/
theorem for_bind {l : Scf.Loop 32} {hok : l.OK} {γ : Type} {init : γ} {body : Fin l.trips → γ → TileProg L γ} (I : ℕ → γ → sProp 𝕄)
    (hb : ∀ (k : Fin l.trips) (acc : γ), I k.val acc ⊢ twp d L (body k acc) (I (k.val + 1))) {kk : γ → TileProg L α} :
    I 0 init ⊢ iprop((∀ acc, I l.trips acc -∗ twp d L (kk acc) Q) -∗ twp d L (Scf.Loop.for l hok init body >>= kk) Q) :=
  Scf.wp_for_bind Idealize.ShloMosaic.frame (wpE (defs₀ (F := Bits)) 𝒱₀ (V d (cV L) (jV L)) none) Set.univ l.lb l.ub l.st hok init body I hb

/-- A loop of no trips. -/
theorem for_zero {l : Scf.Loop 32} {hok : l.OK} (h0 : l.trips = 0) {γ : Type} {init : γ} {body : Fin l.trips → γ → TileProg L γ}
    {kk : γ → TileProg L α} :
    twp d L (kk init) Q ⊢ twp d L (Scf.Loop.for l hok init body >>= kk) Q := by
  iintro H
  iapply (for_bind (d := d) (hok := hok) (body := body) (init := init) (kk := kk) (Q := Q) (fun k acc => iprop(⌜k = 0 ∧ acc = init⌝)) (fun k => absurd k.isLt (by omega)))
  · ipureintro; exact ⟨rfl, rfl⟩
  · iintro %acc %h
    rw [h.2]
    iexact H

/-- A condition assumed, where it holds. -/
theorem twp_assume {P : Prop} {dP : Decidable P} (h : P) {k : PLift P → TileProg L α} :
    twp d L (k ⟨h⟩) Q ⊢ twp d L (.op (.assume P dP) k) Q := by
  show _ ⊢ wp frame (wpE (defs₀ (F := Bits)) 𝒱₀ (V d (cV L) (jV L)) none) Set.univ _ Q
  rw [wp_assume_of _ _ _ _ h]

theorem twp_ret {r : α} : Q r ⊢ twp d L (.ret r) Q := by
  show _ ⊢ wp frame (wpE (defs₀ (F := Bits)) 𝒱₀ (V d (cV L) (jV L)) none) Set.univ _ Q
  rw [wp_ret]
  iintro H
  imodintro
  iexact H

/-! ## The trips -/

/-- Sixteen counters cleared. -/
theorem zero_step {m : Memref sig .scVector .vmem S4096 .i32} {off : Fin 1 → ℕ} (t : ℕ) (ho : off 0 = 16 * t)
    {inb : ∀ a, off a + S16.size a ≤ S4096.size a} {hl : m.view.LoadsAt (Rect.unit (s := S4096) off S16.size inb).toLoadRect}
    {z : IVec S16 32} (hz : ∀ x, z x = 0#32) {hx : (m.access (Rect.unit (s := S4096) off S16.size inb)).Stores Finset.univ}
    {hm : (Finset.univ : Finset S16.Idx) = Finset.univ ∨ ∀ a, (Rect.unit (s := S4096) off S16.size inb).stride a = 1} {r : α} :
    iprop(∃ g, ⌜∀ j < 16 * t, g j = 0#32⌝ ∗ Held d L m g)
      ⊢ twp d L (.op (.load m (Rect.unit (s := S4096) off S16.size inb).toLoadRect hl) fun _ =>
          .op (.store m (Rect.unit (s := S4096) off S16.size inb) z Finset.univ hx hm) fun _ => .ret r)
        fun _ => iprop(∃ g, ⌜∀ j < 16 * (t + 1), g j = 0#32⌝ ∗ Held d L m g) := by
  iintro ⟨%g, %hg, H⟩
  iapply (held_load (16 * t) ho) $$ H
  iintro H
  iapply (held_store (16 * t) ho) $$ H
  iintro H
  iapply twp_ret
  iexists _
  isplitr; swap
  · iexact H
  ipureintro
  intro j hj
  beta_reduce
  by_cases h : 16 * t ≤ j ∧ j < 16 * t + 16
  · rw [if_pos h, hz]
  · rw [if_neg h]; exact hg j (by omega)

/-- The counters after `i` trips. -/
def cells (Ky : ℕ → ℕ → ℕ) (i : ℕ) : ℕ → BitVec 32 := fun h => BitVec.ofNat 32 (cell Ky i h)

theorem cells_zero (Ky : ℕ → ℕ → ℕ) (h : ℕ) : cells Ky 0 h = 0#32 := by unfold cells; rw [cell_zero]

/-- Sixteen digits counted, each in a counter of its lane. -/
theorem hist_store {m : Memref sig .scVector .vmem S4096 .i32} {Ky : ℕ → ℕ → ℕ} (hK : Lanes Ky) (i : ℕ) {ix one : IVec S16 32}
    (hix : ∀ x, (ix x).toNat = Ky i (x 0).val) (hone : ∀ x, one x = 1#32)
    {h : ∀ a x, ((![ix] : Fin 1 → IVec S16 32) a x).toNat < S4096.size a} {hs : (m.access (.whole _)).Stores Finset.univ}
    {k : PUnit → TileProg L α} :
    Held d L m (cells Ky i) ⊢ iprop((Held d L m (cells Ky (i + 1)) -∗ twp d L (k ⟨⟩) Q)
      -∗ twp d L (SparseCore.vectorStoreIdx m ![ix] one (fun _ => 1#1) true h hs >>= k) Q) := by
  have hl : ∀ x : S16.Idx, (x 0).val < 16 := fun x => (x 0).isLt
  refine held_storeIdxAdd (cells Ky (i + 1)) ?_ ?_ ?_
  · intro x y hxy
    apply idx_ext
    rw [← hK.mod i _ (hl x), ← hK.mod i _ (hl y), ← hix, ← hix, hxy]
  · intro x
    unfold cells
    rw [hone, hix, cell_succ, hK.mod i _ (hl x), if_pos rfl, ofNat_add]
  · intro j _ hn
    unfold cells
    rw [cell_succ, if_neg, Nat.add_zero]
    intro he
    have := hn (lane (j % 16))
    rw [hix] at this
    apply this
    show Ky i (j % 16 % 16) = j
    rw [Nat.mod_mod]; exact he

/-- Sixteen words read across the blocks and their digits counted. -/
theorem hist_step {src : Memref sig .scVector .vmem S32784 .i32} {m : Memref sig .scVector .vmem S4096 .i32} {sf : ℕ → BitVec 32}
    {Ky : ℕ → ℕ → ℕ} (hK : Lanes Ky) (i : ℕ) {pa one : IVec S16 32} {pk : IVec S16 32 → IVec S16 32}
    (hone : ∀ x, one x = 1#32) (hpk : ∀ x, (pk (fun x => sf (pa x).toNat) x).toNat = Ky i (x 0).val)
    {P1 : Prop} {d1 : Decidable P1} (hP1 : P1) {P2 : IVec S16 32 → Prop} {d2 : ∀ v, Decidable (P2 v)}
    (hP2 : P2 (fun x => sf (pa x).toNat))
    {h1 : P1 → ∀ a x, ((![pa] : Fin 1 → IVec S16 32) a x).toNat < S32784.size a} {hl : src.view.Loads}
    {h2 : ∀ v, P2 v → ∀ a x, ((![pk v] : Fin 1 → IVec S16 32) a x).toNat < S4096.size a} {hs : (m.access (.whole _)).Stores Finset.univ}
    {r : α} :
    iprop(Held d L src sf ∗ Held d L m (cells Ky i))
      ⊢ twp d L (.op (.assume P1 d1) fun w1 => SparseCore.vectorLoadIdx src ![pa] (h1 w1.down) hl >>= fun v =>
          .op (.assume (P2 v) (d2 v)) fun w2 => SparseCore.vectorStoreIdx m ![pk v] one (fun _ => 1#1) true (h2 v w2.down) hs >>= fun _ => .ret r)
        fun _ => iprop(Held d L src sf ∗ Held d L m (cells Ky (i + 1))) := by
  iintro ⟨Hs, Hm⟩
  iapply (twp_assume hP1)
  iapply held_loadIdx $$ Hs
  iintro Hs
  iapply (twp_assume hP2)
  iapply (hist_store hK i hpk hone) $$ Hm
  iintro Hm
  iapply twp_ret
  isplitl [Hs]
  · iexact Hs
  · iexact Hm

/-- Sixteen counters turned into the offsets of their cells. -/
theorem offs_step {m o : Memref sig .scVector .vmem S4096 .i32} {Ky : ℕ → ℕ → ℕ} {n : ℕ} {off : Fin 1 → ℕ} (t : ℕ) (ho : off 0 = 16 * t)
    {inb : ∀ a, off a + S16.size a ≤ S4096.size a} {hl : m.view.LoadsAt (Rect.unit (s := S4096) off S16.size inb).toLoadRect}
    {hl' : o.view.LoadsAt (Rect.unit (s := S4096) off S16.size inb).toLoadRect}
    {hx : (o.access (Rect.unit (s := S4096) off S16.size inb)).Stores Finset.univ}
    {hm : (Finset.univ : Finset S16.Idx) = Finset.univ ∨ ∀ a, (Rect.unit (s := S4096) off S16.size inb).stride a = 1}
    {acc : BitVec 32} {w : IVec S16 32 → IVec S16 32} {e : IVec S16 32 → BitVec 32}
    (hw : ∀ v x, w v x = (scan .sum v x - v x) + acc) (he : ∀ v, e v = acc + extractAt ![15] (scan .sum v) inpos_S16_p15) :
    iprop((⌜acc = BitVec.ofNat 32 (below Ky n (16 * t))⌝ ∗ ∃ g, ⌜∀ j < 16 * t, g j = BitVec.ofNat 32 (below Ky n j)⌝ ∗ Held d L o g) ∗ Held d L m (cells Ky n))
      ⊢ twp d L (.op (.load (e := .i32) m (Rect.unit (s := S4096) off S16.size inb).toLoadRect hl) fun (v : IVec S16 32) =>
          .op (.load o (Rect.unit (s := S4096) off S16.size inb).toLoadRect hl') fun _ =>
          .op (.store o (Rect.unit (s := S4096) off S16.size inb) (w v) Finset.univ hx hm) fun _ => .ret (e v))
        fun acc' => iprop((⌜acc' = BitVec.ofNat 32 (below Ky n (16 * (t + 1)))⌝ ∗ ∃ g, ⌜∀ j < 16 * (t + 1), g j = BitVec.ofNat 32 (below Ky n j)⌝ ∗ Held d L o g)
          ∗ Held d L m (cells Ky n)) := by
  iintro ⟨⟨%hacc, %g, %hg, Ho⟩, Hm⟩
  have hs : ∀ k, below Ky n (16 * t + k) = below Ky n (16 * t) + ∑ i ∈ Finset.range k, cell Ky n (16 * t + i) := by
    intro k
    unfold below
    exact Finset.sum_range_add _ _ _
  iapply (held_load (16 * t) ho) $$ Hm
  iintro Hm
  iapply (held_load (16 * t) ho) $$ Ho
  iintro Ho
  iapply (held_store (16 * t) ho) $$ Ho
  iintro Ho
  iapply twp_ret
  isplitr [Hm]; swap
  · iexact Hm
  isplitr
  · ipureintro
    rw [he, scan_last (fun x => cells Ky n (16 * t + (x 0).val)) (fun k => cell Ky n (16 * t + k)) (fun x => rfl), hacc, ofNat_add, ← hs, Nat.mul_succ]
  iexists _
  isplitr; swap
  · iexact Ho
  ipureintro
  intro j hj
  beta_reduce
  by_cases h : 16 * t ≤ j ∧ j < 16 * t + 16
  · rw [if_pos h, hw, scan_sum (fun x => cells Ky n (16 * t + (x 0).val)) (fun k => cell Ky n (16 * t + k)) (fun x => rfl),
      show ((lane (j - 16 * t)) 0).val = j - 16 * t from lane_coord (by omega) 0, Finset.sum_range_succ]
    have h1 : cells Ky n (16 * t + (j - 16 * t)) = BitVec.ofNat 32 (cell Ky n (16 * t + (j - 16 * t))) := rfl
    rw [h1, ofNat_add_sub, hacc, ofNat_add, Nat.add_comm, ← hs, show 16 * t + (j - 16 * t) = j by omega]
  · rw [if_neg h]; exact hg j (by omega)

/-- What the placing loop holds after `i` trips of `T`: every offset advanced past the words placed from it, and every placed word at
    its place. -/
def Perm (Ky : ℕ → ℕ → ℕ) (T : ℕ) (sf : ℕ → BitVec 32) (i : ℕ) (g : ℕ → BitVec 32) : Prop :=
  ∀ i' < i, ∀ l < 16, g (place Ky T i' l) = sf (l * T + i')

def offsAt (Ky : ℕ → ℕ → ℕ) (T i : ℕ) : ℕ → BitVec 32 := fun h => BitVec.ofNat 32 (below Ky T h + cell Ky i h)

/-- Sixteen words read across the blocks and put in their places. -/
theorem perm_step {src dst : Memref sig .scVector .vmem S32784 .i32} {o : Memref sig .scVector .vmem S4096 .i32} {sf : ℕ → BitVec 32}
    {Ky : ℕ → ℕ → ℕ} (hK : Lanes Ky) {T : ℕ} (hT : 16 * T ≤ 32784) (i : ℕ) (hi : i < T) {pa : IVec S16 32} {pk pn : IVec S16 32 → IVec S16 32}
    (hpa : ∀ x, (pa x).toNat = (x 0).val * T + i)
    (hpk : ∀ x, (pk (fun x => sf (pa x).toNat) x).toNat = Ky i (x 0).val) (hpn : ∀ v x, pn v x = v x + 1#32)
    {P1 : Prop} {d1 : Decidable P1} (hP1 : P1) {P2 : IVec S16 32 → Prop} {d2 : ∀ v, Decidable (P2 v)}
    (hP2 : P2 (fun x => sf (pa x).toNat)) {P3 : IVec S16 32 → Prop} {d3 : ∀ v, Decidable (P3 v)}
    (hP3 : ∀ v : IVec S16 32, (∀ x, (v x).toNat < 32784) → P3 v)
    {h1 : P1 → ∀ a x, ((![pa] : Fin 1 → IVec S16 32) a x).toNat < S32784.size a} {hl : src.view.Loads}
    {h2 : ∀ v, P2 v → ∀ a x, ((![pk v] : Fin 1 → IVec S16 32) a x).toNat < S4096.size a} {hl2 : o.view.Loads}
    {h3 : ∀ v, P3 v → ∀ a x, ((![v] : Fin 1 → IVec S16 32) a x).toNat < S32784.size a}
    {hs3 : (dst.access (.whole _)).Stores Finset.univ}
    {h4 : ∀ v, P2 v → ∀ a x, ((![pk v] : Fin 1 → IVec S16 32) a x).toNat < S4096.size a}
    {hs4 : (o.access (.whole _)).Stores Finset.univ} {r : α} :
    iprop(Held d L src sf ∗ Held d L o (offsAt Ky T i) ∗ ∃ g, ⌜Perm Ky T sf i g⌝ ∗ Held d L dst g)
      ⊢ twp d L (.op (.assume P1 d1) fun w1 => SparseCore.vectorLoadIdx src ![pa] (h1 w1.down) hl >>= fun v =>
          .op (.assume (P2 v) (d2 v)) fun w2 => SparseCore.vectorLoadIdx o ![pk v] (h2 v w2.down) hl2 >>= fun q =>
          .op (.assume (P3 q) (d3 q)) fun w3 => SparseCore.vectorStoreIdx dst ![q] v (fun _ => 1#1) false (h3 q w3.down) hs3 >>= fun _ =>
          SparseCore.vectorStoreIdx o ![pk v] (pn q) (fun _ => 1#1) false (h4 v w2.down) hs4 >>= fun _ => .ret r)
        fun _ => iprop(Held d L src sf ∗ Held d L o (offsAt Ky T (i + 1)) ∗ ∃ g, ⌜Perm Ky T sf (i + 1) g⌝ ∗ Held d L dst g) := by
  classical
  have hl16 : ∀ x : S16.Idx, (x 0).val < 16 := fun x => (x 0).isLt
  -- the place a lane reads off the offsets
  have hq : ∀ x : S16.Idx, offsAt Ky T i (pk (fun x => sf (pa x).toNat) x).toNat = BitVec.ofNat 32 (place Ky T i (x 0).val) := by
    intro x
    rw [hpk]
    unfold offsAt place cell
    rw [hK.mod i _ (hl16 x)]
  have hqn : ∀ x : S16.Idx, (offsAt Ky T i (pk (fun x => sf (pa x).toNat) x).toNat).toNat = place Ky T i (x 0).val := by
    intro x
    rw [hq]
    have := place_lt hK hi (hl16 x)
    exact toNat_ofNat_of_lt (by omega)
  iintro ⟨Hs, Ho, %g, %hg, Hd⟩
  iapply (twp_assume hP1)
  iapply held_loadIdx $$ Hs
  iintro Hs
  iapply (twp_assume hP2)
  iapply held_loadIdx $$ Ho
  iintro Ho
  iapply (twp_assume (hP3 _ fun x => by
    have := place_lt hK hi (hl16 x)
    rw [hqn]; omega))
  iapply (held_storeIdx (fun j => if h : ∃ l, l < 16 ∧ place Ky T i l = j then sf (h.choose * T + i) else g j) ?_ ?_) $$ Hd
  · intro x _
    beta_reduce
    have hex : ∃ l, l < 16 ∧ place Ky T i l = (offsAt Ky T i (pk (fun x => sf (pa x).toNat) x).toNat).toNat := ⟨_, hl16 x, (hqn x).symm⟩
    rw [dif_pos hex, hpa]
    have hc := hex.choose_spec
    rw [(place_inj hK hi hc.1 hi (hl16 x) (hc.2.trans (hqn x))).2]
  · intro j _ hn
    beta_reduce
    rw [dif_neg]
    rintro ⟨l, hl, hlj⟩
    apply hn (lane l) rfl
    rw [hqn, lane_coord hl, hlj]
  iintro Hd
  iapply (held_storeIdx (offsAt Ky T (i + 1)) ?_ ?_) $$ Ho
  · intro x _
    rw [hpn, hq, hpk]
    unfold offsAt place
    rw [cell_succ, hK.mod i _ (hl16 x), if_pos rfl, ← Nat.add_assoc, ofNat_add _ 1]
    unfold cell
    rw [hK.mod i _ (hl16 x)]
  · intro j _ hn
    unfold offsAt
    rw [cell_succ, if_neg, Nat.add_zero]
    intro he
    apply hn (lane (j % 16)) rfl
    rw [hpk]
    show Ky i (j % 16 % 16) = j
    rw [Nat.mod_mod]; exact he
  iintro Ho
  iapply twp_ret
  isplitl [Hs]
  · iexact Hs
  isplitl [Ho]
  · iexact Ho
  iexists _
  isplitr; swap
  · iexact Hd
  ipureintro
  intro i' hi' l hl
  beta_reduce
  rcases Nat.lt_succ_iff_lt_or_eq.1 hi' with hlt | rfl
  · rw [dif_neg]
    · exact hg i' hlt l hl
    · rintro ⟨l', hl', he⟩
      have := (place_inj hK hi hl' (hlt.trans hi) hl he).1
      omega
  · have hex : ∃ l', l' < 16 ∧ place Ky T i' l' = place Ky T i' l := ⟨l, hl, rfl⟩
    rw [dif_pos hex, (place_inj hK hi hex.choose_spec.1 hi hl hex.choose_spec.2).2]

end Steps

end Cert.Tile
-- ==== Proof.Payload.lean ====
/-
  What the vector arithmetic between the memory operations computes, lane by lane: addresses, counter indices, sort keys, and
  the trip counts of the loops that run over the selected words.
-/
module

public import proofs.«01_k».proof.Proof.Steps

@[expose] public section

noncomputable section

namespace Cert.Tile

open Cert.Kernel Cert.Kernel.Gen Cert.Count Cert.Words
open Idealize.ShloMosaic

/-! ## Lanes -/

/-- The lane numbers. -/
abbrev lanes : IVec S16 32 := iota .scVector S16 32 [0] iota_S16_d0_w32_scVector

theorem lanes_val (x : S16.Idx) : lanes x = BitVec.ofNat 32 (x 0).val := by
  show BitVec.ofNat 32 _ = _
  congr 1
  simp

theorem iv_val (t : ℕ) : Scf.iv 0#32 1#32 t = BitVec.ofNat 32 t := by
  unfold Scf.iv
  simp

theorem lane_lt (x : S16.Idx) : (x 0).val < 16 := (x 0).isLt

/-- The address of word `t` of a lane's block. -/
theorem addr_val (T t : ℕ) (x : S16.Idx) :
    addi (muli lanes (broadcast S16 (BitVec.ofNat 32 T))) (broadcast S16 (Scf.iv 0#32 1#32 t)) x = BitVec.ofNat 32 ((x 0).val * T + t) := by
  show lanes x * BitVec.ofNat 32 T + Scf.iv 0#32 1#32 t = _
  rw [lanes_val, iv_val, ofNat_mul, ofNat_add]

theorem addr_toNat {T t : ℕ} (hT : T ≤ 4096) (ht : t ≤ 4096) (x : S16.Idx) :
    (addi (muli lanes (broadcast S16 (BitVec.ofNat 32 T))) (broadcast S16 (Scf.iv 0#32 1#32 t)) x).toNat = (x 0).val * T + t := by
  rw [addr_val]
  have h1 : (x 0).val * T ≤ 15 * T := Nat.mul_le_mul_right _ (by have := lane_lt x; omega)
  exact toNat_ofNat_of_lt (by omega)

/-- A word shifted right by a constant. -/
theorem shrui_val (w : BitVec 32) {s : ℕ} (hs : s < 32) : (IntOp.shrui .vector w (BitVec.ofNat 32 s)).toNat = w.toNat / 2 ^ s := by
  unfold IntOp.shrui
  have h : (BitVec.ofNat 32 s).toNat = s := toNat_ofNat_of_lt (by omega)
  rw [if_pos (by rw [h]; exact hs)]
  show (w >>> (BitVec.ofNat 32 s).toNat).toNat = _
  rw [h, BitVec.toNat_ushiftRight, Nat.shiftRight_eq_div_pow]

/-- The counter of a digit and a lane. -/
theorem counter_val (w : BitVec 32) {n l : ℕ} (hn : w.toNat = n) (hl : l < 16) (h : n < 256) : (w * 16#32 + BitVec.ofNat 32 l).toNat = 16 * n + l := by
  have : w = BitVec.ofNat 32 n := by rw [← hn, BitVec.ofNat_toNat, BitVec.setWidth_eq]
  rw [this, show (16#32 : BitVec 32) = BitVec.ofNat 32 16 from rfl, ofNat_mul, ofNat_add, toNat_ofNat_of_lt (by omega)]
  omega

/-- The counter index of digit `s` of a vector's words. -/
theorem digit_val {s : ℕ} (hs : s < 32) (v : IVec S16 32) (x : S16.Idx) :
    (addi (muli (andi (shrui v (broadcast S16 (BitVec.ofNat 32 s))) (broadcast S16 255#32)) (broadcast S16 16#32)) lanes x).toNat
      = 16 * dig s (v x) + (x 0).val := by
  show (((IntOp.shrui .vector (v x) (BitVec.ofNat 32 s)) &&& 255#32) * 16#32 + lanes x).toNat = _
  rw [lanes_val]
  refine counter_val _ ?_ (lane_lt x) (dig_lt _ _)
  rw [BitVec.toNat_and, shrui_val _ hs]
  unfold dig
  exact Nat.and_two_pow_sub_one_eq_mod _ 8

/-! ## Keys -/

/-- The printed key of a vector's words. -/
theorem key_val (v : FVec Bits S16 .f32) (x : S16.Idx) : k0_pay6 (F := Bits) v x = key (v x) := by
  show ((v x) ^^^ (IntOp.shrsi .vector (v x) 31#32 ||| 2147483648#32)) ^^^ 4294967295#32 = key (v x)
  exact key_spelled (v x)

theorem top_val (w : BitVec 32) : (IntOp.shrui .vector w 24#32).toNat = dig 24 w := by
  rw [shrui_val w (s := 24) (by decide)]
  unfold dig
  rw [Nat.mod_eq_of_lt]
  have := w.isLt
  omega

/-- The counter index of the top digit of a vector's keys. -/
theorem top_counter (v : FVec Bits S16 .f32) (x : S16.Idx) : (k0_pay4 (F := Bits) lanes v x).toNat = 16 * dig 24 (key (v x)) + (x 0).val := by
  show ((IntOp.shrui .vector (k0_pay6 (F := Bits) v x) 24#32) * 16#32 + lanes x).toNat = _
  rw [lanes_val, key_val]
  exact counter_val _ (top_val _) (lane_lt x) (dig_lt _ _)

/-- Whether a word's top digit is at most `b`. -/
theorem sel_val {b : ℕ} (hb : b < 256) (v : FVec Bits S16 .f32) (x : S16.Idx) :
    k0_pay7 (F := Bits) (BitVec.ofNat 32 b) v x = if dig 24 (key (v x)) ≤ b then 1#1 else 0#1 := by
  show IntOp.cmpi .sle (IntOp.shrui .vector (k0_pay6 (F := Bits) v x) 24#32) (BitVec.ofNat 32 b) = _
  rw [key_val]
  have hd := dig_lt 24 (key (v x))
  have h : IntOp.shrui .vector (key (v x)) 24#32 = BitVec.ofNat 32 (dig 24 (key (v x))) := by
    rw [← top_val, BitVec.ofNat_toNat, BitVec.setWidth_eq]
  rw [h]
  unfold IntOp.cmpi
  simp only [BitVec.sle, toInt_ofNat_of_lt (show dig 24 (key (v x)) < 2147483648 by omega), toInt_ofNat_of_lt (show b < 2147483648 by omega)]
  split
  · rw [decide_eq_true (by omega)]; rfl
  · rw [decide_eq_false (by omega)]; rfl

/-- The selection mask as numbers. -/
theorem sel_ext {b : ℕ} (hb : b < 256) (v : FVec Bits S16 .f32) (x : S16.Idx) :
    extui 32 (k0_pay7 (F := Bits) (BitVec.ofNat 32 b) v) natLt_1_32 x = BitVec.ofNat 32 (if dig 24 (key (v x)) ≤ b then 1 else 0) := by
  show (k0_pay7 (F := Bits) (BitVec.ofNat 32 b) v x).setWidth 32 = _
  rw [sel_val hb]
  split <;> rfl

/-- The printed inverse of the key. -/
theorem unkey_val (v : IVec S16 32) (x : S16.Idx) : k0_pay58 (F := Bits) v x = unkey (v x) :=
  unkey_spelled (v x)

/-! ## The loops over the selected words -/

/-- Sixteenths of the selected words, rounded up, as the program computes them. -/
def blocks (w : BitVec 32) : BitVec 32 :=
  Scalar.select (Scalar.andi
    (Scalar.cmpi .ne (Scalar.subi (Scalar.extui (Scalar.cmpi .sgt (Scalar.subi (Scalar.addi w 16#32) 1#32) 0#32)) (Scalar.extui (Scalar.cmpi .slt (Scalar.subi (Scalar.addi w 16#32) 1#32) 0#32)))
      (Scalar.subi (Scalar.extui (Scalar.cmpi .sgt 16#32 0#32)) (Scalar.extui (Scalar.cmpi .slt 16#32 0#32))))
    (Scalar.cmpi .ne (Scalar.remsi (Scalar.subi (Scalar.addi w 16#32) 1#32) 16#32) 0#32))
    (Scalar.subi (Scalar.divsi (Scalar.subi (Scalar.addi w 16#32) 1#32) 16#32) 1#32) (Scalar.divsi (Scalar.subi (Scalar.addi w 16#32) 1#32) 16#32)

theorem plus15 (m : ℕ) : Scalar.subi (Scalar.addi (BitVec.ofNat 32 m) 16#32) 1#32 = BitVec.ofNat 32 (m + 15) := by
  show BitVec.ofNat 32 m + BitVec.ofNat 32 16 - BitVec.ofNat 32 1 = _
  rw [ofNat_add, show m + 16 = (m + 15) + 1 from rfl, ofNat_add_sub]

theorem blocks_val {m : ℕ} (hm : m ≤ 32768) : blocks (BitVec.ofNat 32 m) = BitVec.ofNat 32 ((m + 15) / 16) := by
  unfold blocks
  rw [plus15]
  exact div16 (by omega) (by omega)

/-- The two loops a run over the blocks is printed as: the trips of step one, and those left over. -/
def mainLoop (w : BitVec 32) : Scf.Loop 32 :=
  ⟨0#32, Scalar.addi 0#32 (Scalar.muli (Scalar.divsi (Scalar.subi (blocks w) 0#32) 1#32) 1#32), 1#32⟩
def restLoop (w : BitVec 32) : Scf.Loop 32 :=
  ⟨Scalar.addi 0#32 (Scalar.muli (Scalar.divsi (Scalar.subi (blocks w) 0#32) 1#32) 1#32), Scalar.addi 0#32 (Scalar.subi (blocks w) 0#32), 1#32⟩

theorem divsi_one (w : BitVec 32) : Scalar.divsi w 1#32 = w := by
  unfold Scalar.divsi IntOp.divsi
  rw [if_neg (by unfold IntOp.SDivCorner; rintro (h | ⟨_, h⟩) <;> exact absurd h (by decide))]
  exact BitVec.sdiv_one

theorem mainLoop_eq {m : ℕ} (hm : m ≤ 32768) : mainLoop (BitVec.ofNat 32 m) = ⟨0#32, BitVec.ofNat 32 ((m + 15) / 16), 1#32⟩ := by
  unfold mainLoop
  rw [blocks_val hm]
  congr 1
  show 0#32 + Scalar.divsi (BitVec.ofNat 32 ((m + 15) / 16) - 0#32) 1#32 * 1#32 = _
  rw [divsi_one, BitVec.mul_one, BitVec.sub_zero, BitVec.zero_add]

theorem restLoop_eq {m : ℕ} (hm : m ≤ 32768) : restLoop (BitVec.ofNat 32 m) = ⟨BitVec.ofNat 32 ((m + 15) / 16), BitVec.ofNat 32 ((m + 15) / 16), 1#32⟩ := by
  unfold restLoop
  rw [blocks_val hm]
  congr 1
  · show 0#32 + Scalar.divsi (BitVec.ofNat 32 ((m + 15) / 16) - 0#32) 1#32 * 1#32 = _
    rw [divsi_one, BitVec.mul_one, BitVec.sub_zero, BitVec.zero_add]
  · show 0#32 + (BitVec.ofNat 32 ((m + 15) / 16) - 0#32) = _
    rw [BitVec.sub_zero, BitVec.zero_add]

theorem mainLoop_trips {m : ℕ} (hm : m ≤ 32768) : (mainLoop (BitVec.ofNat 32 m)).trips = (m + 15) / 16 := by
  rw [mainLoop_eq hm]
  unfold Scf.Loop.trips Scf.trips
  rw [toInt_ofNat_of_lt (by omega)]
  simp
  omega

theorem restLoop_trips {m : ℕ} (hm : m ≤ 32768) : (restLoop (BitVec.ofNat 32 m)).trips = 0 := by
  rw [restLoop_eq hm]
  unfold Scf.Loop.trips Scf.trips
  rw [toInt_ofNat_of_lt (by omega)]
  simp

theorem mainLoop_ok {m : ℕ} (hm : m ≤ 32768) : (mainLoop (BitVec.ofNat 32 m)).OK := by
  have ht := mainLoop_trips hm
  rw [mainLoop_eq hm] at ht ⊢
  unfold Scf.Loop.OK Scf.OK
  unfold Scf.Loop.trips at ht
  rw [ht]
  simp
  omega

theorem restLoop_ok {m : ℕ} (hm : m ≤ 32768) : (restLoop (BitVec.ofNat 32 m)).OK := by
  have ht := restLoop_trips hm
  rw [restLoop_eq hm] at ht ⊢
  unfold Scf.Loop.OK Scf.OK
  unfold Scf.Loop.trips at ht
  have hi := toInt_ofNat_of_lt (show (m + 15) / 16 < 2147483648 by omega)
  rw [ht]
  dsimp only
  rw [hi]
  refine ⟨by decide, ?_⟩
  norm_num
  omega

/-- What the program assumes of the number of selected words. -/
theorem chk3 {m : ℕ} (hm : m ≤ 32768) : k0_chk3 (BitVec.ofNat 32 m) := by
  have h1 := mainLoop_ok hm
  have h2 := restLoop_ok hm
  refine ⟨?_, h1, h2, h1, h2, h1, h2, h1, h2, h1, h2, h1, h2, h1, h2, h1, h2⟩
  intro a
  have ha : a = 0 := Fin.eq_zero a
  subst ha
  show (BitVec.ofNat 32 m).toNat + 16 ≤ 32784
  rw [toNat_ofNat_of_lt (by omega)]
  omega

theorem off6_val {m : ℕ} (hm : m ≤ 32768) : k0_off6 (BitVec.ofNat 32 m) 0 = m := by
  show (BitVec.ofNat 32 m).toNat = m
  exact toNat_ofNat_of_lt (by omega)

end Cert.Tile
-- ==== Proof.Passes.lean ====
/-
  A radix pass as its loops, and the printed passes: from the words of one buffer to the same words in the other, placed by
  one more digit.
-/
module

public import proofs.«01_k».proof.Proof.Payload

@[expose] public section

noncomputable section

namespace Cert.Tile

open Cert.Kernel Cert.Kernel.Gen Cert.Count Cert.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

section Half

variable {d : Dev nD} {L : grid0.Coords} {α : Type} {Q : α → sProp 𝕄}

/-- Some contents. -/
abbrev Any (d : Dev nD) (L : grid0.Coords) {n : ℕ} {e : EltTy} (m : Memref sig .scVector .vmem ⟨1, ![n]⟩ e) : sProp 𝕄 :=
  iprop(∃ g, Held d L m g)

/-- The first `16 t` counters cleared. -/
abbrev Cleared (d : Dev nD) (L : grid0.Coords) (m : Memref sig .scVector .vmem S4096 .i32) (t : ℕ) : sProp 𝕄 :=
  iprop(∃ g, ⌜∀ j < 16 * t, g j = 0#32⌝ ∗ Held d L m g)

/-- The first `16 t` counters turned into offsets, `acc` the sum so far. -/
abbrev Summed (d : Dev nD) (L : grid0.Coords) (m o : Memref sig .scVector .vmem S4096 .i32) (Ky : ℕ → ℕ → ℕ) (n t : ℕ) (acc : BitVec 32) : sProp 𝕄 :=
  iprop((⌜acc = BitVec.ofNat 32 (below Ky n (16 * t))⌝ ∗ ∃ g, ⌜∀ j < 16 * t, g j = BitVec.ofNat 32 (below Ky n j)⌝ ∗ Held d L o g)
    ∗ Held d L m (cells Ky n))

/-- `t` trips of placing. -/
abbrev Placing (d : Dev nD) (L : grid0.Coords) (src dst : Memref sig .scVector .vmem S32784 .i32) (o : Memref sig .scVector .vmem S4096 .i32)
    (Ky : ℕ → ℕ → ℕ) (T : ℕ) (sf : ℕ → BitVec 32) (t : ℕ) : sProp 𝕄 :=
  iprop(Held d L src sf ∗ Held d L o (offsAt Ky T t) ∗ ∃ g, ⌜Perm Ky T sf t g⌝ ∗ Held d L dst g)

/-- The counters cleared. -/
theorem clear_bind {m : Memref sig .scVector .vmem S4096 .i32} {l : Scf.Loop 32} {hok : l.OK} {b : Fin l.trips → BitVec 32 → TileProg L (BitVec 32)}
    (hl : l.trips = 256) (hb : ∀ (t : Fin l.trips) acc, Cleared d L m t ⊢ twp d L (b t acc) fun _ => Cleared d L m (t + 1))
    {kk : BitVec 32 → TileProg L α} :
    Any d L m ⊢ iprop((∀ a, Held d L m (fun _ => 0#32) -∗ twp d L (kk a) Q) -∗ twp d L (Scf.Loop.for l hok 0#32 b >>= kk) Q) := by
  iintro ⟨%g, H⟩ Hk
  iapply (for_bind (d := d) (fun t _ => Cleared d L m t) hb) $$ [H]
  · iexists g
    isplitr
    · ipureintro; intro j hj; omega
    · iexact H
  iintro %a ⟨%g', %hg', H⟩
  ispecialize Hk $$ %a
  iapply Hk
  iapply (held_congr (g := g') (fun j hj => hg' j (by rw [hl]; omega)))
  iexact H

/-- The first half of a pass: the digits counted and the counts turned into offsets. -/
theorem count_bind {src : Memref sig .scVector .vmem S32784 .i32} {m o : Memref sig .scVector .vmem S4096 .i32} {Ky : ℕ → ℕ → ℕ} {T : ℕ}
    {sf : ℕ → BitVec 32} {lz lh lr lo : Scf.Loop 32} {okz : lz.OK} {okh : lh.OK} {okr : lr.OK} {oko : lo.OK}
    {bz : Fin lz.trips → BitVec 32 → TileProg L (BitVec 32)} {bh : Fin lh.trips → BitVec 32 → TileProg L (BitVec 32)}
    {br : Fin lr.trips → BitVec 32 → TileProg L (BitVec 32)} {bo : Fin lo.trips → BitVec 32 → TileProg L (BitVec 32)}
    (hlz : lz.trips = 256) (hlh : lh.trips = T) (hlr : lr.trips = 0) (hlo : lo.trips = 256)
    (hz : ∀ (t : Fin lz.trips) acc, Cleared d L m t ⊢ twp d L (bz t acc) fun _ => Cleared d L m (t + 1))
    (hh : ∀ (t : Fin lh.trips) acc, t.val < T → iprop(Held d L src sf ∗ Held d L m (cells Ky t))
      ⊢ twp d L (bh t acc) fun _ => iprop(Held d L src sf ∗ Held d L m (cells Ky (t + 1))))
    (ho : ∀ (t : Fin lo.trips) acc, Summed d L m o Ky T t acc ⊢ twp d L (bo t acc) (Summed d L m o Ky T (t + 1)))
    {kk : BitVec 32 → TileProg L α} :
    iprop(Held d L src sf ∗ Any d L m ∗ Any d L o)
      ⊢ iprop((∀ a, (Held d L src sf ∗ Any d L m ∗ Held d L o (offsAt Ky T 0)) -∗ twp d L (kk a) Q)
        -∗ twp d L (Scf.Loop.for lz okz 0#32 bz >>= fun _ => Scf.Loop.for lh okh 0#32 bh >>= fun a => Scf.Loop.for lr okr a br >>= fun _ =>
            Scf.Loop.for lo oko 0#32 bo >>= kk) Q) := by
  iintro ⟨Hs, Hm, ⟨%go, Ho⟩⟩ Hk
  iapply (clear_bind hlz hz) $$ Hm
  iintro %_ Hm
  iapply (for_bind (d := d) (fun t _ => iprop(Held d L src sf ∗ Held d L m (cells Ky t))) (fun t acc => hh t acc (hlh ▸ t.isLt))) $$ [Hs Hm]
  · isplitl [Hs]
    · iexact Hs
    · iapply (held_congr (fun j _ => (cells_zero Ky j).symm))
      iexact Hm
  rw [hlh]
  iintro %a ⟨Hs, Hm⟩
  iapply (for_zero hlr)
  iapply (for_bind (d := d) (fun t acc => Summed d L m o Ky T t acc) ho) $$ [Ho Hm]
  · isplitr [Hm]; swap
    · iexact Hm
    isplitr
    · ipureintro; simp [below]
    iexists go
    isplitr
    · ipureintro; intro j hj; omega
    · iexact Ho
  rw [hlo]
  iintro %a' ⟨⟨-, %g, %hg, Ho⟩, Hm⟩
  ispecialize Hk $$ %a'
  iapply Hk
  isplitl [Hs]
  · iexact Hs
  isplitl [Hm]
  · iexists _; iexact Hm
  iapply (held_congr (g := g) (g' := offsAt Ky T 0) (fun j hj => by unfold offsAt; rw [cell_zero]; exact hg j hj))
  iexact Ho

/-- The second half of a pass: the words placed. -/
theorem place_bind {src dst : Memref sig .scVector .vmem S32784 .i32} {o : Memref sig .scVector .vmem S4096 .i32} {Ky : ℕ → ℕ → ℕ} {T : ℕ}
    {sf : ℕ → BitVec 32} {lp lr : Scf.Loop 32} {okp : lp.OK} {okr : lr.OK} {bp : Fin lp.trips → BitVec 32 → TileProg L (BitVec 32)}
    {br : Fin lr.trips → BitVec 32 → TileProg L (BitVec 32)} (hlp : lp.trips = T) (hlr : lr.trips = 0)
    (hp : ∀ (t : Fin lp.trips) acc, t.val < T → Placing d L src dst o Ky T sf t ⊢ twp d L (bp t acc) fun _ => Placing d L src dst o Ky T sf (t + 1))
    {kk : BitVec 32 → TileProg L α} :
    iprop(Held d L src sf ∗ Held d L o (offsAt Ky T 0) ∗ Any d L dst)
      ⊢ iprop((∀ a, (Held d L src sf ∗ Any d L o ∗ ∃ g, ⌜Perm Ky T sf T g⌝ ∗ Held d L dst g) -∗ twp d L (kk a) Q)
        -∗ twp d L (Scf.Loop.for lp okp 0#32 bp >>= fun a => Scf.Loop.for lr okr a br >>= kk) Q) := by
  iintro ⟨Hs, Ho, ⟨%gd, Hd⟩⟩ Hk
  iapply (for_bind (d := d) (fun t _ => Placing d L src dst o Ky T sf t) (fun t acc => hp t acc (hlp ▸ t.isLt))) $$ [Hs Ho Hd]
  · isplitl [Hs]
    · iexact Hs
    isplitl [Ho]
    · iexact Ho
    iexists gd
    isplitr
    · ipureintro; intro i hi; omega
    · iexact Hd
  rw [hlp]
  iintro %a ⟨Hs, Ho, Hd⟩
  iapply (for_zero hlr)
  ispecialize Hk $$ %a
  iapply Hk
  isplitl [Hs]
  · iexact Hs
  isplitl [Ho]
  · iexists _; iexact Ho
  · iexact Hd

/-- The first `16 t` words of a buffer spelled as floats in another. -/
abbrev Spelled (d : Dev nD) (L : grid0.Coords) (src : Memref sig .scVector .vmem S32784 .i32) (dst : Memref sig .scVector .vmem S8192 .f32)
    (a : ℕ → BitVec 32) (t : ℕ) : sProp 𝕄 :=
  iprop(Held d L src a ∗ ∃ o, ⌜∀ j < 16 * t, o j = unkey (a j)⌝ ∗ Held d L dst o)

/-- Sixteen more words spelled. -/
theorem spell_step {src : Memref sig .scVector .vmem S32784 .i32} {dst : Memref sig .scVector .vmem S8192 .f32} {a : ℕ → BitVec 32} (t : ℕ)
    {off off' : Fin 1 → ℕ} {inb inb'} (ho : off 0 = 16 * t) (ho' : off' 0 = 16 * t) {hl hl' hx hm} :
    Spelled d L src dst a t ⊢ twp d L (.op (.load (e := .i32) src (Rect.unit (s := S32784) off S16.size inb).toLoadRect hl) fun (v : IVec S16 32) =>
        .op (.load (e := .f32) dst (Rect.unit (s := S8192) off' S16.size inb').toLoadRect hl') fun _ =>
        .op (.store dst (Rect.unit (s := S8192) off' S16.size inb') (k0_pay58 (F := Bits) v) Finset.univ hx hm) fun _ => .ret 0#32)
      fun _ => Spelled d L src dst a (t + 1) := by
  iintro ⟨Hs, %o, %h, Hd⟩
  iapply (held_load (16 * t) ho) $$ Hs
  iintro Hs
  iapply (held_load (16 * t) ho') $$ Hd
  iintro Hd
  iapply (held_store (16 * t) ho') $$ Hd
  iintro Hd
  iapply twp_ret
  isplitl [Hs]
  · iexact Hs
  iexists _
  isplitr
  swap
  · iexact Hd
  ipureintro
  intro j hj
  beta_reduce
  split
  · rw [unkey_val, lane_coord (by omega)]
    congr 2; omega
  · exact h j (by omega)

end Half

/-! ## Side conditions of a pass -/

section Side

variable {T s : ℕ} {sf : ℕ → BitVec 32} {t : ℕ}

theorem chk_addr (hT : 16 * T ≤ 32784) (ht : t < T) {pa : IVec S16 32} (hpa : ∀ x, (pa x).toNat = (x 0).val * T + t) :
    ∀ a x, ((![pa] : Fin 1 → IVec S16 32) a x).toNat < S32784.size a := by
  intro a x
  have ha : a = 0 := Fin.eq_zero a
  subst ha
  show (pa x).toNat < 32784
  rw [hpa]
  have h1 : (x 0).val * T ≤ 15 * T := Nat.mul_le_mul_right _ (by have := lane_lt x; omega)
  omega

theorem chk_key {Ky : ℕ → ℕ → ℕ} (hK : Lanes Ky) {v : IVec S16 32} (hv : ∀ x, (v x).toNat = Ky t (x 0).val) :
    ∀ a x, ((![v] : Fin 1 → IVec S16 32) a x).toNat < S4096.size a := by
  intro a x
  have ha : a = 0 := Fin.eq_zero a
  subst ha
  show (v x).toNat < 4096
  rw [hv]
  exact hK.lt _ _ (lane_lt x)

theorem chk_place {v : IVec S16 32} (hv : ∀ x, (v x).toNat < 32784) : ∀ a x, ((![v] : Fin 1 → IVec S16 32) a x).toNat < S32784.size a := by
  intro a x
  have ha : a = 0 := Fin.eq_zero a
  subst ha
  exact hv x

/-- The counter a lane's word falls in. -/
theorem pass_key (hs : s < 32) {pa : IVec S16 32} (hpa : ∀ x, (pa x).toNat = (x 0).val * T + t) (x : S16.Idx) :
    (addi (muli (andi (shrui (fun x => sf (pa x).toNat) (broadcast S16 (BitVec.ofNat 32 s))) (broadcast S16 255#32)) (broadcast S16 16#32)) lanes x).toNat
      = passKey s T sf t (x 0).val := by
  rw [digit_val hs, hpa]; rfl

end Side

/-! ## The printed passes -/

section Parts

variable {d : Dev nD} {L : grid0.Coords}
variable {arg2 : Memref sig .scVector .hbm S2048x32768 .f32} {harg2 : arg2.IsWhole} {arg3 : Memref sig .scVector .hbm S2048x8192 .f32}
  {harg3 : arg3.IsWhole} {arg4 : Memref sig .scVector .vmem S32768 .f32} {harg4 : arg4.IsWhole} {arg5 : Memref sig .scVector .vmem S32784 .i32}
  {harg5 : arg5.IsWhole} {arg6 : Memref sig .scVector .vmem S32784 .i32} {harg6 : arg6.IsWhole} {arg7 : Memref sig .scVector .vmem S4096 .i32}
  {harg7 : arg7.IsWhole} {arg8 : Memref sig .scVector .vmem S4096 .i32} {harg8 : arg8.IsWhole} {arg9 : Memref sig .scVector .vmem S8192 .f32}
  {harg9 : arg9.IsWhole} {arg10 v113_r0 v113_r1 : DmaSems sig S_}

/-- What is left of the printed quotient once the first part has computed its pieces. -/
abbrev p15 (m : ℕ) : BitVec 32 := Scalar.subi (Scalar.addi (BitVec.ofNat 32 m) 16#32) 1#32

/-- What the first pass hands on: the number of trips and three constants. -/
abbrev gridOut (v : BitVec 32) : Σ' (_ : BitVec 32) (_ : BitVec 32) (_ : BitVec 32), BitVec 32 := ⟨v, 0#32, 0#32, 256#32⟩

/-- The first pass: the selected words of the first buffer into the second. -/
theorem part2_spec {m : ℕ} (hm : m ≤ 32768) {hw : k0_chk3 (BitVec.ofNat 32 m)} {sf : ℕ → BitVec 32} :
    iprop(Held d L arg5 sf ∗ Any d L arg6 ∗ Any d L arg7 ∗ Any d L arg8)
      ⊢ twp d L (k0_part2 (F := Bits) L arg2 harg2 arg3 harg3 arg4 harg4 arg5 harg5 arg6 harg6 arg7 harg7 arg8 harg8 arg9 harg9 arg10 v113_r0 v113_r1
          lanes k0_pay1 k0_pay2 (BitVec.ofNat 32 m) hw (p15 m) 16#32 (Scalar.divsi (p15 m) 16#32) (Scalar.extui (Scalar.cmpi .sgt (p15 m) 0#32)))
        fun r => iprop(⌜r = gridOut (BitVec.ofNat 32 ((m + 15) / 16))⌝ ∗ Any d L arg5 ∗ Any d L arg7 ∗ Any d L arg8
          ∗ ∃ g, ⌜Placed 0 ((m + 15) / 16) sf g⌝ ∗ Held d L arg6 g) := by
  have hT : 16 * ((m + 15) / 16) ≤ 32784 := by omega
  have hK := passKey_lanes 0 ((m + 15) / 16) sf
  have hb := blocks_val hm
  have ha : ∀ t < (m + 15) / 16, ∀ x : S16.Idx,
      (addi (muli lanes (broadcast S16 (blocks (BitVec.ofNat 32 m)))) (broadcast S16 (Scf.iv 0#32 1#32 t)) x).toNat = (x 0).val * ((m + 15) / 16) + t := by
    intro t ht x
    rw [hb]
    exact addr_toNat (by omega) (by omega) x
  rw [k0_part2_eq_skeleton]
  unfold k0_part2_skel
  iintro ⟨H5, H6, H7, H8⟩
  iapply (count_bind (d := d) (L := L) (src := arg5) (m := arg7) (o := arg8) (Ky := passKey 0 ((m + 15) / 16) sf) (T := (m + 15) / 16) (sf := sf)
    (by decide) (mainLoop_trips hm) (restLoop_trips hm) (by decide) ?_ ?_ ?_) $$ [H5 H7 H8]
  · exact fun t _ => zero_step t.val (congrFun (k0_off7_eq t) 0) (fun _ => rfl)
  · exact fun t _ ht => hist_step hK t.val (pa := k0_pay10 lanes _ _ _ _ _ t) (pk := k0_pay11 (F := Bits) lanes) (fun _ => rfl)
      (pass_key (s := 0) (by decide) (ha t ht)) (P1 := k0_chk4 _) (chk_addr hT ht (ha t ht)) (P2 := fun v => k0_chk5 (k0_pay11 (F := Bits) lanes v))
      (chk_key (t := t.val) hK (pass_key (s := 0) (by decide) (ha t ht))) (hl := View.loads_vmem h_S32784) (h1 := fun h => h) (h2 := fun _ h => h)
  · exact fun t acc => offs_step t.val (congrFun (k0_off8_eq t) 0) (w := k0_pay14 (F := Bits) acc) (fun _ _ => rfl) (fun _ => rfl)
  · isplitl [H5]
    · iexact H5
    isplitl [H7]
    · iexact H7
    · iexact H8
  iintro %_ ⟨H5, H7, H8⟩
  iapply (place_bind (d := d) (L := L) (src := arg5) (dst := arg6) (o := arg8) (Ky := passKey 0 ((m + 15) / 16) sf) (T := (m + 15) / 16) (sf := sf)
    (mainLoop_trips hm) (restLoop_trips hm) ?_) $$ [H5 H6 H8]
  · exact fun t _ ht => perm_step hK hT t.val ht (pa := k0_pay16 lanes _ _ _ _ _ t) (pk := k0_pay17 (F := Bits) lanes) (pn := k0_pay18 (F := Bits))
      (ha t ht) (pass_key (s := 0) (by decide) (ha t ht)) (fun _ _ => rfl) (P1 := k0_chk8 _) (chk_addr hT ht (ha t ht))
      (P2 := fun v => k0_chk9 (k0_pay17 (F := Bits) lanes v))
      ⟨chk_key (t := t.val) hK (pass_key (s := 0) (by decide) (ha t ht)), chk_key (t := t.val) hK (pass_key (s := 0) (by decide) (ha t ht))⟩
      (P3 := k0_chk10) (fun _ h => chk_place h) (hl := View.loads_vmem h_S32784) (hl2 := View.loads_vmem h_S4096)
      (h1 := fun h => h) (h2 := fun _ h => h.1) (h3 := fun _ h => h) (h4 := fun _ h => h.2)
  · isplitl [H5]
    · iexact H5
    isplitl [H8]
    · iexact H8
    · iexact H6
  iintro %_ ⟨H5, H8, H6⟩
  iapply twp_ret
  isplitr
  · ipureintro; exact congrArg gridOut hb
  isplitl [H5]
  · iexists _; iexact H5
  isplitl [H7]
  · iexact H7
  isplitl [H8]
  · iexact H8
  · iexact H6

/-- The second pass and the first half of the third: the words of the second buffer into the first, and the offsets by their next digit. -/
theorem part3_spec {m : ℕ} (hm : m ≤ 32768) {hw : k0_chk3 (BitVec.ofNat 32 m)} {sf : ℕ → BitVec 32} :
    iprop(Any d L arg5 ∗ Held d L arg6 sf ∗ Any d L arg7 ∗ Any d L arg8)
      ⊢ twp d L (k0_part3 (F := Bits) L arg2 harg2 arg3 harg3 arg4 harg4 arg5 harg5 arg6 harg6 arg7 harg7 arg8 harg8 arg9 harg9 arg10 v113_r0 v113_r1
          lanes k0_pay1 k0_pay2 (BitVec.ofNat 32 m) hw (BitVec.ofNat 32 ((m + 15) / 16)) 0#32 0#32 256#32)
        fun _ => iprop(∃ g, ⌜Placed 8 ((m + 15) / 16) sf g⌝ ∗ Held d L arg5 g ∗ Any d L arg6 ∗ Any d L arg7
          ∗ Held d L arg8 (offsAt (passKey 16 ((m + 15) / 16) g) ((m + 15) / 16) 0)) := by
  have hT : 16 * ((m + 15) / 16) ≤ 32784 := by omega
  have ha : ∀ t < (m + 15) / 16, ∀ x : S16.Idx,
      (addi (muli lanes (broadcast S16 (BitVec.ofNat 32 ((m + 15) / 16)))) (broadcast S16 (Scf.iv 0#32 1#32 t)) x).toNat = (x 0).val * ((m + 15) / 16) + t :=
    fun t ht x => addr_toNat (by omega) (by omega) x
  rw [k0_part3_eq_skeleton]
  unfold k0_part3_skel
  iintro ⟨H5, H6, H7, H8⟩
  iapply (count_bind (d := d) (L := L) (src := arg6) (m := arg7) (o := arg8) (Ky := passKey 8 ((m + 15) / 16) sf) (T := (m + 15) / 16) (sf := sf)
    (by decide) (mainLoop_trips hm) (restLoop_trips hm) (by decide) ?_ ?_ ?_) $$ [H6 H7 H8]
  · exact fun t _ => zero_step t.val (congrFun (k0_off9_eq t) 0) (fun _ => rfl)
  · exact fun t _ ht => hist_step (passKey_lanes 8 ((m + 15) / 16) sf) t.val (pa := k0_pay22 lanes _ _ t) (pk := k0_pay23 (F := Bits) lanes) (fun _ => rfl)
      (pass_key (s := 8) (by decide) (ha t ht)) (P1 := k0_chk14 _) (chk_addr hT ht (ha t ht)) (P2 := fun v => k0_chk15 (k0_pay23 (F := Bits) lanes v))
      (chk_key (t := t.val) (passKey_lanes 8 ((m + 15) / 16) sf) (pass_key (s := 8) (by decide) (ha t ht))) (hl := View.loads_vmem h_S32784) (h1 := fun h => h) (h2 := fun _ h => h)
  · exact fun t acc => offs_step t.val (congrFun (k0_off10_eq t) 0) (w := k0_pay26 (F := Bits) acc) (fun _ _ => rfl) (fun _ => rfl)
  · isplitl [H6]
    · iexact H6
    isplitl [H7]
    · iexact H7
    · iexact H8
  iintro %_ ⟨H6, H7, H8⟩
  iapply (place_bind (d := d) (L := L) (src := arg6) (dst := arg5) (o := arg8) (Ky := passKey 8 ((m + 15) / 16) sf) (T := (m + 15) / 16) (sf := sf)
    (mainLoop_trips hm) (restLoop_trips hm) ?_) $$ [H6 H5 H8]
  · exact fun t _ ht => perm_step (passKey_lanes 8 ((m + 15) / 16) sf) hT t.val ht (pa := k0_pay28 lanes _ _ t) (pk := k0_pay29 (F := Bits) lanes) (pn := k0_pay30 (F := Bits))
      (ha t ht) (pass_key (s := 8) (by decide) (ha t ht)) (fun _ _ => rfl) (P1 := k0_chk18 _) (chk_addr hT ht (ha t ht))
      (P2 := fun v => k0_chk19 (k0_pay29 (F := Bits) lanes v))
      ⟨chk_key (t := t.val) (passKey_lanes 8 ((m + 15) / 16) sf) (pass_key (s := 8) (by decide) (ha t ht)), chk_key (t := t.val) (passKey_lanes 8 ((m + 15) / 16) sf) (pass_key (s := 8) (by decide) (ha t ht))⟩
      (P3 := k0_chk20) (fun _ h => chk_place h) (hl := View.loads_vmem h_S32784) (hl2 := View.loads_vmem h_S4096)
      (h1 := fun h => h) (h2 := fun _ h => h.1) (h3 := fun _ h => h) (h4 := fun _ h => h.2)
  · isplitl [H6]
    · iexact H6
    isplitl [H8]
    · iexact H8
    · iexact H5
  iintro %_ ⟨H6, H8, ⟨%g, %hg, H5⟩⟩
  iapply (count_bind (d := d) (L := L) (src := arg5) (m := arg7) (o := arg8) (Ky := passKey 16 ((m + 15) / 16) g) (T := (m + 15) / 16) (sf := g)
    (by decide) (mainLoop_trips hm) (restLoop_trips hm) (by decide) ?_ ?_ ?_) $$ [H5 H7 H8]
  · exact fun t _ => zero_step t.val (congrFun (k0_off11_eq t) 0) (fun _ => rfl)
  · exact fun t _ ht => hist_step (passKey_lanes 16 ((m + 15) / 16) g) t.val (pa := k0_pay34 lanes _ _ t) (pk := k0_pay35 (F := Bits) lanes) (fun _ => rfl)
      (pass_key (s := 16) (by decide) (ha t ht)) (P1 := k0_chk24 _) (chk_addr hT ht (ha t ht)) (P2 := fun v => k0_chk25 (k0_pay35 (F := Bits) lanes v))
      (chk_key (t := t.val) (passKey_lanes 16 ((m + 15) / 16) g) (pass_key (s := 16) (by decide) (ha t ht))) (hl := View.loads_vmem h_S32784) (h1 := fun h => h) (h2 := fun _ h => h)
  · exact fun t acc => offs_step t.val (congrFun (k0_off12_eq t) 0) (w := k0_pay38 (F := Bits) acc) (fun _ _ => rfl) (fun _ => rfl)
  · isplitl [H5]
    · iexact H5
    isplitl [H7]
    · iexact H7
    · iexact H8
  iintro %_ ⟨H5, H7, H8⟩
  iapply twp_ret
  iexists g
  isplitr
  · ipureintro; exact hg
  isplitl [H5]
  · iexact H5
  isplitl [H6]
  · iexists _; iexact H6
  isplitl [H7]
  · iexact H7
  · iexact H8

/-- The second half of the third pass, the fourth pass, and the first words spelled as floats again. -/
theorem part4_spec {m : ℕ} (hm : m ≤ 32768) {hw : k0_chk3 (BitVec.ofNat 32 m)} {sf : ℕ → BitVec 32} {t1 : Fin k0_t1_loop.trips} :
    iprop(Held d L arg5 sf ∗ Any d L arg6 ∗ Any d L arg7 ∗ Held d L arg8 (offsAt (passKey 16 ((m + 15) / 16) sf) ((m + 15) / 16) 0) ∗ Any d L arg9)
      ⊢ twp d L (k0_part4 (F := Bits) L arg2 harg2 arg3 harg3 arg4 harg4 arg5 harg5 arg6 harg6 arg7 harg7 arg8 harg8 arg9 harg9 arg10 v113_r0 v113_r1
          lanes k0_pay1 k0_pay2 t1 (BitVec.ofNat 32 m) hw (BitVec.ofNat 32 ((m + 15) / 16)))
        fun _ => iprop(∃ g a o, ⌜Placed 16 ((m + 15) / 16) sf g ∧ Placed 24 ((m + 15) / 16) g a ∧ ∀ k < 8192, o k = unkey (a k)⌝
          ∗ Any d L arg5 ∗ Any d L arg6 ∗ Any d L arg7 ∗ Any d L arg8 ∗ Held d L arg9 o) := by
  have hT : 16 * ((m + 15) / 16) ≤ 32784 := by omega
  have ha : ∀ t < (m + 15) / 16, ∀ x : S16.Idx,
      (addi (muli lanes (broadcast S16 (BitVec.ofNat 32 ((m + 15) / 16)))) (broadcast S16 (Scf.iv 0#32 1#32 t)) x).toNat = (x 0).val * ((m + 15) / 16) + t :=
    fun t ht x => addr_toNat (by omega) (by omega) x
  rw [k0_part4_eq_skeleton]
  unfold k0_part4_skel
  iintro ⟨H5, H6, H7, H8, ⟨%g9, H9⟩⟩
  iapply (place_bind (d := d) (L := L) (src := arg5) (dst := arg6) (o := arg8) (Ky := passKey 16 ((m + 15) / 16) sf) (T := (m + 15) / 16) (sf := sf)
    (mainLoop_trips hm) (restLoop_trips hm) ?_) $$ [H5 H6 H8]
  · exact fun t _ ht => perm_step (passKey_lanes 16 ((m + 15) / 16) sf) hT t.val ht (pa := k0_pay40 lanes _ _ t) (pk := k0_pay41 (F := Bits) lanes) (pn := k0_pay42 (F := Bits))
      (ha t ht) (pass_key (s := 16) (by decide) (ha t ht)) (fun _ _ => rfl) (P1 := k0_chk28 _) (chk_addr hT ht (ha t ht))
      (P2 := fun v => k0_chk29 (k0_pay41 (F := Bits) lanes v))
      ⟨chk_key (t := t.val) (passKey_lanes 16 ((m + 15) / 16) sf) (pass_key (s := 16) (by decide) (ha t ht)), chk_key (t := t.val) (passKey_lanes 16 ((m + 15) / 16) sf) (pass_key (s := 16) (by decide) (ha t ht))⟩
      (P3 := k0_chk30) (fun _ h => chk_place h) (hl := View.loads_vmem h_S32784) (hl2 := View.loads_vmem h_S4096)
      (h1 := fun h => h) (h2 := fun _ h => h.1) (h3 := fun _ h => h) (h4 := fun _ h => h.2)
  · isplitl [H5]
    · iexact H5
    isplitl [H8]
    · iexact H8
    · iexact H6
  iintro %_ ⟨H5, H8, ⟨%g, %hg, H6⟩⟩
  iapply (count_bind (d := d) (L := L) (src := arg6) (m := arg7) (o := arg8) (Ky := passKey 24 ((m + 15) / 16) g) (T := (m + 15) / 16) (sf := g)
    (by decide) (mainLoop_trips hm) (restLoop_trips hm) (by decide) ?_ ?_ ?_) $$ [H6 H7 H8]
  · exact fun t _ => zero_step t.val (congrFun (k0_off13_eq t) 0) (fun _ => rfl)
  · exact fun t _ ht => hist_step (passKey_lanes 24 ((m + 15) / 16) g) t.val (pa := k0_pay46 lanes _ _ t) (pk := k0_pay47 (F := Bits) lanes) (fun _ => rfl)
      (pass_key (s := 24) (by decide) (ha t ht)) (P1 := k0_chk34 _) (chk_addr hT ht (ha t ht)) (P2 := fun v => k0_chk35 (k0_pay47 (F := Bits) lanes v))
      (chk_key (t := t.val) (passKey_lanes 24 ((m + 15) / 16) g) (pass_key (s := 24) (by decide) (ha t ht))) (hl := View.loads_vmem h_S32784) (h1 := fun h => h) (h2 := fun _ h => h)
  · exact fun t acc => offs_step t.val (congrFun (k0_off14_eq t) 0) (w := k0_pay50 (F := Bits) acc) (fun _ _ => rfl) (fun _ => rfl)
  · isplitl [H6]
    · iexact H6
    isplitl [H7]
    · iexact H7
    · iexact H8
  iintro %_ ⟨H6, H7, H8⟩
  ihave H5 : Any d L arg5 $$ [H5]
  · iexists _; iexact H5
  iapply (place_bind (d := d) (L := L) (src := arg6) (dst := arg5) (o := arg8) (Ky := passKey 24 ((m + 15) / 16) g) (T := (m + 15) / 16) (sf := g)
    (mainLoop_trips hm) (restLoop_trips hm) ?_) $$ [H6 H5 H8]
  · exact fun t _ ht => perm_step (passKey_lanes 24 ((m + 15) / 16) g) hT t.val ht (pa := k0_pay52 lanes _ _ t) (pk := k0_pay53 (F := Bits) lanes) (pn := k0_pay54 (F := Bits))
      (ha t ht) (pass_key (s := 24) (by decide) (ha t ht)) (fun _ _ => rfl) (P1 := k0_chk38 _) (chk_addr hT ht (ha t ht))
      (P2 := fun v => k0_chk39 (k0_pay53 (F := Bits) lanes v))
      ⟨chk_key (t := t.val) (passKey_lanes 24 ((m + 15) / 16) g) (pass_key (s := 24) (by decide) (ha t ht)), chk_key (t := t.val) (passKey_lanes 24 ((m + 15) / 16) g) (pass_key (s := 24) (by decide) (ha t ht))⟩
      (P3 := k0_chk40) (fun _ h => chk_place h) (hl := View.loads_vmem h_S32784) (hl2 := View.loads_vmem h_S4096)
      (h1 := fun h => h) (h2 := fun _ h => h.1) (h3 := fun _ h => h) (h4 := fun _ h => h.2)
  · isplitl [H6]
    · iexact H6
    isplitl [H8]
    · iexact H8
    · iexact H5
  iintro %_ ⟨H6, H8, ⟨%a, %ha', H5⟩⟩
  iapply (for_bind (d := d) (fun t _ => Spelled d L arg5 arg9 a t) (fun t acc => spell_step t.val (congrFun (k0_off15_eq t) 0) (congrFun (k0_off16_eq t) 0))) $$ [H5 H9]
  · isplitl [H5]
    · iexact H5
    iexists g9
    isplitr
    · ipureintro; intro j hj; omega
    · iexact H9
  iintro %_ ⟨H5, %o, %ho, H9⟩
  iapply twp_ret
  iexists g
  iexists a
  iexists o
  isplitr
  · ipureintro; exact ⟨hg, ha', fun k hk => ho k (by rw [show k0_t30_loop.trips = 512 from by decide]; omega)⟩
  isplitl [H5]
  · iexists _; iexact H5
  isplitl [H6]
  · iexists _; iexact H6
  isplitl [H7]
  · iexact H7
  isplitl [H8]
  · iexact H8
  · iexact H9

end Parts

end Cert.Tile
-- ==== Proof.Select.lean ====
/-
  The first part of a row: the top digits counted, the bucket that holds the last word wanted found, and the words up to that
  bucket packed, behind them sixteen words of ones.
-/
module

public import proofs.«01_k».proof.Proof.Passes

@[expose] public section

noncomputable section

namespace Cert.Tile

open Cert.Kernel Cert.Kernel.Gen Cert.Count Cert.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

/-! ## The counts -/

/-- Counting on by a run of numbers. -/
theorem count_run (p : ℕ → Prop) [DecidablePred p] (a n : ℕ) :
    Nat.count p (a + n) = Nat.count p a + ∑ k ∈ Finset.range n, if p (a + k) then 1 else 0 := by
  induction n with
  | zero => simp
  | succ n ih => rw [← Nat.add_assoc, Nat.count_succ, ih, Finset.sum_range_succ, Nat.add_assoc]

/-- Counting by rows of sixteen. -/
theorem count_rows (p : ℕ → Prop) [DecidablePred p] (n : ℕ) :
    Nat.count p (16 * n) = ∑ i ∈ Finset.range n, ∑ l ∈ Finset.range 16, if p (16 * i + l) then 1 else 0 := by
  induction n with
  | zero => simp
  | succ n ih =>
    rw [Nat.mul_succ, count_run, ih]
    exact (Finset.sum_range_succ (fun i => ∑ l ∈ Finset.range 16, if p (16 * i + l) then 1 else 0) n).symm

variable (row : ℕ → BitVec 32)

/-- The counter of word `16 i + l`: its key's top digit, and its lane. -/
def topKey (i l : ℕ) : ℕ := 16 * dig 24 (key (row (16 * i + l))) + l

theorem topKey_lanes : Lanes (topKey row) where
  lt i l hl := by have := dig_lt 24 (key (row (16 * i + l))); unfold topKey; omega
  mod i l hl := by unfold topKey; omega

/-- The words whose key's top digit is at most `b`. -/
abbrev Sel (b : ℕ) (j : ℕ) : Prop := dig 24 (key (row j)) ≤ b

theorem sel_count (b : ℕ) : Nat.count (Sel row b) 32768 = below (topKey row) 2048 (16 * (b + 1)) := by
  rw [below_eq (topKey_lanes row), show 32768 = 16 * 2048 from rfl, count_rows]
  refine Finset.sum_congr rfl fun i _ => Finset.sum_congr rfl fun l hl => ?_
  have hl' := Finset.mem_range.mp hl
  unfold topKey Sel
  congr 1
  apply propext
  omega

/-! ## The trips -/

section Trips

variable {d : Dev nD} {L : grid0.Coords} {α : Type} {Q : α → sProp 𝕄} {row}

/-- Sixteen words of the row read and their top digits counted. -/
theorem top_step {src : Memref sig .scVector .vmem S32768 .f32} {m : Memref sig .scVector .vmem S4096 .i32} (t : ℕ)
    {off : Fin 1 → ℕ} {inb} (ho : off 0 = 16 * t) {hl} {ix : FVec Bits S16 .f32 → IVec S16 32} {one : IVec S16 32}
    (hix : ∀ v x, (ix v x).toNat = 16 * dig 24 (key (v x)) + (x 0).val) (hone : ∀ x, one x = 1#32)
    {P : FVec Bits S16 .f32 → Prop} {dP : ∀ v, Decidable (P v)} (hP : P fun x => row (16 * t + (x 0).val))
    {h1 : ∀ v, P v → ∀ a x, ((![ix v] : Fin 1 → IVec S16 32) a x).toNat < S4096.size a} {hs : (m.access (.whole _)).Stores Finset.univ}
    {r : α} :
    iprop(Held d L src row ∗ Held d L m (cells (topKey row) t))
      ⊢ twp d L (.op (.load (e := .f32) src (Rect.unit (s := S32768) off S16.size inb).toLoadRect hl) fun (v : FVec Bits S16 .f32) =>
          .op (.assume (P v) (dP v)) fun w => SparseCore.vectorStoreIdx m ![ix v] one (fun _ => 1#1) true (h1 v w.down) hs >>= fun _ => .ret r)
        fun _ => iprop(Held d L src row ∗ Held d L m (cells (topKey row) (t + 1))) := by
  have hk : ∀ x : S16.Idx, (ix (fun x => row (16 * t + (x 0).val)) x).toNat = topKey row t (x 0).val := fun x => by
    rw [hix]; rfl
  iintro ⟨Hs, Hm⟩
  iapply (held_load (16 * t) ho) $$ Hs
  iintro Hs
  iapply (twp_assume hP)
  iapply (hist_store (topKey_lanes row) t (ix := ix fun x => row (16 * t + (x 0).val)) hk hone) $$ Hm
  iintro Hm
  iapply twp_ret
  isplitl [Hs]
  · iexact Hs
  · iexact Hm

/-- What the search for the bucket knows after `t` buckets: the words so far, and once they are enough the bucket where they became so. -/
def Found (Ky : ℕ → ℕ → ℕ) (n t : ℕ) (a : BitVec 32 × BitVec 32) : Prop :=
  a.1 = BitVec.ofNat 32 (below Ky n (16 * t))
    ∧ (below Ky n (16 * t) < 8192 ∨ ∃ b < 256, a.2 = BitVec.ofNat 32 b ∧ 8192 ≤ below Ky n (16 * (b + 1)))

theorem slt_ofNat {a b : ℕ} (ha : a < 2147483648) (hb : b < 2147483648) :
    Scalar.cmpi .slt (BitVec.ofNat 32 a) (BitVec.ofNat 32 b) = if a < b then 1#1 else 0#1 := by
  show IntOp.cmpi .slt (BitVec.ofNat 32 a) (BitVec.ofNat 32 b) = _
  unfold IntOp.cmpi
  simp only [BitVec.slt, toInt_ofNat_of_lt ha, toInt_ofNat_of_lt hb]
  split
  · rw [decide_eq_true (by omega)]; rfl
  · rw [decide_eq_false (by omega)]; rfl

theorem sge_ofNat {a b : ℕ} (ha : a < 2147483648) (hb : b < 2147483648) :
    Scalar.cmpi .sge (BitVec.ofNat 32 a) (BitVec.ofNat 32 b) = if b ≤ a then 1#1 else 0#1 := by
  show IntOp.cmpi .sge (BitVec.ofNat 32 a) (BitVec.ofNat 32 b) = _
  unfold IntOp.cmpi
  simp only [BitVec.sle, toInt_ofNat_of_lt ha, toInt_ofNat_of_lt hb]
  split
  · rw [decide_eq_true (by omega)]; rfl
  · rw [decide_eq_false (by omega)]; rfl

/-- One bucket of the search. -/
theorem found_succ {Ky : ℕ → ℕ → ℕ} (hK : Lanes Ky) {n t : ℕ} (hn : n ≤ 2048) (ht : t < 256) {a : BitVec 32 × BitVec 32} (h : Found Ky n t a)
    {w : BitVec 32} (hw : w = BitVec.ofNat 32 (∑ k ∈ Finset.range 16, cell Ky n (16 * t + k))) :
    Found Ky n (t + 1) (Scalar.addi a.1 w, Scalar.select (Scalar.andi (Scalar.cmpi .slt a.1 8192#32) (Scalar.cmpi .sge (Scalar.addi a.1 w) 8192#32)) (Scf.iv 0#32 1#32 t) a.2) := by
  obtain ⟨h1, h2⟩ := h
  have hs : below Ky n (16 * (t + 1)) = below Ky n (16 * t) + ∑ k ∈ Finset.range 16, cell Ky n (16 * t + k) := Finset.sum_range_add _ _ _
  have hb : ∀ H, H ≤ 4096 → below Ky n H < 2147483648 := fun H hH => by
    have := below_mono Ky n hH
    rw [below_all hK] at this
    omega
  have hadd : Scalar.addi a.1 w = BitVec.ofNat 32 (below Ky n (16 * (t + 1))) := by
    rw [hs, ← ofNat_add, ← hw, ← h1]; rfl
  refine ⟨hadd, ?_⟩
  dsimp only
  rw [hadd, h1, show (8192#32 : BitVec 32) = BitVec.ofNat 32 8192 from rfl, slt_ofNat (hb _ (by omega)) (by decide), sge_ofNat (hb _ (by omega)) (by decide), iv_val]
  by_cases hlt : below Ky n (16 * t) < 8192
  · rw [if_pos hlt]
    by_cases hge : 8192 ≤ below Ky n (16 * (t + 1))
    · rw [if_pos hge]
      exact .inr ⟨t, ht, rfl, hge⟩
    · exact .inl (by omega)
  · rw [if_neg hlt]
    obtain ⟨b, hb1, hb2, hb3⟩ := h2.resolve_left hlt
    refine .inr ⟨b, hb1, ?_, hb3⟩
    rw [← hb2]
    split <;> rfl

/-- One bucket of the search, over its counters. -/
theorem found_step {m : Memref sig .scVector .vmem S4096 .i32} {Ky : ℕ → ℕ → ℕ} (hK : Lanes Ky) {n : ℕ} (hn : n ≤ 2048) (t : ℕ) (ht : t < 256)
    {off : Fin 1 → ℕ} {inb} (ho : off 0 = 16 * t) {hl} (a : BitVec 32 × BitVec 32) {e : IVec S16 32 → BitVec 32}
    (he : ∀ v, e v = extractAt ![15] (scan .sum v) inpos_S16_p15) :
    iprop(⌜Found Ky n t a⌝ ∗ Held d L m (cells Ky n))
      ⊢ twp d L (.op (.load (e := .i32) m (Rect.unit (s := S4096) off S16.size inb).toLoadRect hl) fun (v : IVec S16 32) =>
          .ret (Scalar.addi a.1 (e v), Scalar.select (Scalar.andi (Scalar.cmpi .slt a.1 8192#32) (Scalar.cmpi .sge (Scalar.addi a.1 (e v)) 8192#32)) (Scf.iv 0#32 1#32 t) a.2))
        fun a' => iprop(⌜Found Ky n (t + 1) a'⌝ ∗ Held d L m (cells Ky n)) := by
  iintro ⟨%h, Hm⟩
  iapply (held_load (16 * t) ho) $$ Hm
  iintro Hm
  iapply twp_ret
  isplitr
  · ipureintro
    refine found_succ hK hn ht h ?_
    rw [he, scan_last (fun x => cells Ky n (16 * t + (x 0).val)) (fun k => cell Ky n (16 * t + k)) (fun x => rfl)]
  · iexact Hm

/-- The packing after `t` trips. -/
abbrev Packing (d : Dev nD) (L : grid0.Coords) (src : Memref sig .scVector .vmem S32768 .f32) (dst : Memref sig .scVector .vmem S32784 .i32)
    (row : ℕ → BitVec 32) (b t : ℕ) (acc : BitVec 32) : sProp 𝕄 :=
  iprop(Held d L src row ∗ ⌜acc = BitVec.ofNat 32 (Nat.count (Sel row b) (16 * t))⌝
    ∗ ∃ g, ⌜Packed (16 * t) (Sel row b) (fun j => key (row j)) g⌝ ∗ Held d L dst g)

/-- Sixteen words of the row read and the selected ones packed. -/
theorem pack_step {src : Memref sig .scVector .vmem S32768 .f32} {dst : Memref sig .scVector .vmem S32784 .i32} {b : ℕ} (hb : b < 256) (t : ℕ) (ht : t < 2048)
    {off : Fin 1 → ℕ} {inb} (ho : off 0 = 16 * t) {hl} (acc : BitVec 32)
    {P : FVec Bits S16 .f32 → Prop} {dP : ∀ v, Decidable (P v)}
    (hP : ∀ v, (∀ x, (k0_pay8 (F := Bits) (BitVec.ofNat 32 b) acc v x).toNat < 32784) → P v)
    {h1 : ∀ v, P v → ∀ a x, ((![k0_pay8 (F := Bits) (BitVec.ofNat 32 b) acc v] : Fin 1 → IVec S16 32) a x).toNat < S32784.size a}
    {hs : (dst.access (.whole _)).Stores Finset.univ} :
    Packing d L src dst row b t acc
      ⊢ twp d L (.op (.load (e := .f32) src (Rect.unit (s := S32768) off S16.size inb).toLoadRect hl) fun (v : FVec Bits S16 .f32) =>
          .op (.assume (P v) (dP v)) fun w =>
            SparseCore.vectorStoreIdx dst ![k0_pay8 (F := Bits) (BitVec.ofNat 32 b) acc v] (k0_pay6 (F := Bits) v) (k0_pay7 (F := Bits) (BitVec.ofNat 32 b) v) false (h1 v w.down) hs
              >>= fun _ => .ret (Scalar.addi acc (extractAt ![15] (k0_pay9 (F := Bits) (BitVec.ofNat 32 b) v) inpos_S16_p15)))
        (Packing d L src dst row b (t + 1)) := by
  classical
  iintro ⟨Hs, %hacc, %g, %hg, Hd⟩
  have hext : ∀ x : S16.Idx, extui 32 (k0_pay7 (F := Bits) (BitVec.ofNat 32 b) (fun x => row (16 * t + (x 0).val))) natLt_1_32 x
      = BitVec.ofNat 32 ((fun k => if Sel row b (16 * t + k) then 1 else 0) (x 0).val) := fun x => sel_ext hb _ x
  have hix : ∀ x : S16.Idx, k0_pay8 (F := Bits) (BitVec.ofNat 32 b) acc (fun x => row (16 * t + (x 0).val)) x
      = BitVec.ofNat 32 (Nat.count (Sel row b) (16 * t + (x 0).val)) := by
    intro x
    show (acc + scan .sum (extui 32 (k0_pay7 (F := Bits) (BitVec.ofNat 32 b) (fun x => row (16 * t + (x 0).val))) natLt_1_32) x)
      - extui 32 (k0_pay7 (F := Bits) (BitVec.ofNat 32 b) (fun x => row (16 * t + (x 0).val))) natLt_1_32 x = _
    rw [scan_sum _ (fun k => if Sel row b (16 * t + k) then 1 else 0) hext, hext, hacc, ofNat_add, Finset.sum_range_succ, ← Nat.add_assoc, ofNat_add_sub, ← count_run]
  have hle : ∀ j, j ≤ 32768 → Nat.count (Sel row b) j ≤ 32768 := fun j hj => (Nat.count_le _).trans hj
  have hixn : ∀ x : S16.Idx, (k0_pay8 (F := Bits) (BitVec.ofNat 32 b) acc (fun x => row (16 * t + (x 0).val)) x).toNat
      = Nat.count (Sel row b) (16 * t + (x 0).val) := by
    intro x
    have h1 := lane_lt x
    have := hle (16 * t + (x 0).val) (by omega)
    rw [hix, toNat_ofNat_of_lt (by omega)]
  iapply (held_load (16 * t) ho) $$ Hs
  iintro Hs
  iapply (twp_assume (hP _ fun x => by
    have h1 := lane_lt x
    have := hle (16 * t + (x 0).val) (by omega)
    rw [hixn]; omega))
  iapply (held_storeIdx (fun j => if h : ∃ l, l < 16 ∧ Sel row b (16 * t + l) ∧ Nat.count (Sel row b) (16 * t + l) = j then key (row (16 * t + h.choose)) else g j) ?_ ?_) $$ Hd
  · intro x hm
    beta_reduce
    rw [sel_val hb] at hm
    have hsel : Sel row b (16 * t + (x 0).val) := by
      by_contra hn
      rw [if_neg hn] at hm
      exact absurd hm (by decide)
    have hex : ∃ l, l < 16 ∧ Sel row b (16 * t + l) ∧ Nat.count (Sel row b) (16 * t + l)
        = (k0_pay8 (F := Bits) (BitVec.ofNat 32 b) acc (fun x => row (16 * t + (x 0).val)) x).toNat := ⟨_, lane_lt x, hsel, (hixn x).symm⟩
    rw [dif_pos hex, key_val]
    have hc := hex.choose_spec
    rw [Nat.count_injective hc.2.1 hsel (hc.2.2.trans (hixn x))]
  · intro j _ hn
    beta_reduce
    rw [dif_neg]
    rintro ⟨l, hl, hsel, hlj⟩
    refine hn (lane l) ?_ ?_
    · rw [sel_val hb, lane_coord hl]; exact if_pos hsel
    · rw [hixn, lane_coord hl, hlj]
  iintro Hd
  iapply twp_ret
  isplitl [Hs]
  · iexact Hs
  isplitr
  · ipureintro
    have h9 : extractAt ![15] (k0_pay9 (F := Bits) (BitVec.ofNat 32 b) (fun x => row (16 * t + (x 0).val))) inpos_S16_p15
        = BitVec.ofNat 32 (∑ k ∈ Finset.range 16, (fun k => if Sel row b (16 * t + k) then 1 else 0) k) := scan_last _ (fun k => if Sel row b (16 * t + k) then 1 else 0) hext _
    rw [h9, hacc, Nat.mul_succ, count_run, ← ofNat_add]; rfl
  iexists _
  isplitr; swap
  · iexact Hd
  ipureintro
  intro j hj hsel
  beta_reduce
  by_cases h : 16 * t ≤ j
  · have hex : ∃ l, l < 16 ∧ Sel row b (16 * t + l) ∧ Nat.count (Sel row b) (16 * t + l) = Nat.count (Sel row b) j :=
      ⟨j - 16 * t, by omega, by rw [show 16 * t + (j - 16 * t) = j by omega]; exact hsel, by rw [show 16 * t + (j - 16 * t) = j by omega]⟩
    rw [dif_pos hex]
    have hc := hex.choose_spec
    rw [Nat.count_injective hc.2.1 hsel hc.2.2]
  · rw [dif_neg]
    · exact hg j (by omega) hsel
    rintro ⟨l, hl, hs', he⟩
    have := Nat.count_injective hs' hsel he
    omega

end Trips

/-! ## The printed selection -/

section Parts

variable {d : Dev nD} {L : grid0.Coords}
variable {arg2 : Memref sig .scVector .hbm S2048x32768 .f32} {harg2 : arg2.IsWhole} {arg3 : Memref sig .scVector .hbm S2048x8192 .f32}
  {harg3 : arg3.IsWhole} {arg4 : Memref sig .scVector .vmem S32768 .f32} {harg4 : arg4.IsWhole} {arg5 : Memref sig .scVector .vmem S32784 .i32}
  {harg5 : arg5.IsWhole} {arg6 : Memref sig .scVector .vmem S32784 .i32} {harg6 : arg6.IsWhole} {arg7 : Memref sig .scVector .vmem S4096 .i32}
  {harg7 : arg7.IsWhole} {arg8 : Memref sig .scVector .vmem S4096 .i32} {harg8 : arg8.IsWhole} {arg9 : Memref sig .scVector .vmem S8192 .f32}
  {harg9 : arg9.IsWhole} {arg10 v113_r0 v113_r1 : DmaSems sig S_}

/-- What the selection leaves of a row: `m` words packed, those up to one bucket, `8192` of them at least, and sixteen words of ones. -/
def Chosen (row : ℕ → BitVec 32) (m : ℕ) (a : ℕ → BitVec 32) : Prop :=
  ∃ b, Nat.count (Sel row b) 32768 = m ∧ 8192 ≤ m ∧ Packed 32768 (Sel row b) (fun j => key (row j)) a ∧ ∀ t, m ≤ t → t < m + 16 → a t = 0xFFFFFFFF#32

/-- What the first part hands on, of `m` words chosen. -/
abbrev chosenOut (m : ℕ) (hw : k0_chk3 (BitVec.ofNat 32 m)) : Σ' (v17 : BitVec 32) (_ : k0_chk3 v17) (_ : BitVec 32) (_ : BitVec 32) (_ : BitVec 32), BitVec 32 :=
  ⟨BitVec.ofNat 32 m, hw, p15 m, 16#32, Scalar.divsi (p15 m) 16#32, Scalar.extui (Scalar.cmpi .sgt (p15 m) 0#32)⟩

/-- The selection from a row in the tile's memory. -/
theorem select_spec {row : ℕ → BitVec 32} {v1 : BitVec 32} {k0_t1 : Fin k0_t1_loop.trips} :
    iprop(Held d L arg4 row ∗ Any d L arg5 ∗ Any d L arg7)
      ⊢ twp d L (do
          let _ : BitVec 32 ← Scf.Loop.for k0_t2_loop k0_t2_ok 0#32 (k0_t2_body (F := Bits) L arg2 harg2 arg3 harg3 arg4 harg4 arg5 harg5 arg6 harg6 arg7 harg7 arg8 harg8 arg9 harg9 arg10 v113_r0 v113_r1 v1 lanes k0_pay1 k0_pay2 k0_pay3 0#32 1#32 k0_t1)
          let _ : BitVec 32 ← Scf.Loop.for k0_t3_loop k0_t3_ok 0#32 (k0_t3_body (F := Bits) L arg2 harg2 arg3 harg3 arg4 harg4 arg5 harg5 arg6 harg6 arg7 harg7 arg8 harg8 arg9 harg9 arg10 v113_r0 v113_r1 v1 lanes k0_pay1 k0_pay2 k0_pay3 0#32 1#32 k0_t1)
          let (_, v15_1) ← Scf.Loop.for k0_t4_loop k0_t4_ok (0#32, 0#32) (k0_t4_body (F := Bits) L arg2 harg2 arg3 harg3 arg4 harg4 arg5 harg5 arg6 harg6 arg7 harg7 arg8 harg8 arg9 harg9 arg10 v113_r0 v113_r1 v1 lanes k0_pay1 k0_pay2 k0_pay3 0#32 1#32 k0_t1)
          let v17 : BitVec 32 ← Scf.Loop.for k0_t5_loop k0_t5_ok 0#32 (k0_t5_body (F := Bits) L arg2 harg2 arg3 harg3 arg4 harg4 arg5 harg5 arg6 harg6 arg7 harg7 arg8 harg8 arg9 harg9 arg10 v113_r0 v113_r1 v1 lanes k0_pay1 k0_pay2 k0_pay3 0#32 1#32 k0_t1 v15_1)
          have k0_hw3 : k0_chk3 v17 := (← Prog.lift (TpuEff.assume (k0_chk3 v17) (k0_chk3.dec v17))).down
          let _ : Vec Bits S16 .i32 ← Prog.lift (.load arg5 (Rect.unit (s := S32784) (k0_off6 v17) S16.size (k0_off6_inb v17 k0_hw3)).toLoadRect (View.loadsAt_vmem h_S16))
          Prog.lift (.store arg5 (Rect.unit (s := S32784) (k0_off6 v17) S16.size (k0_off6_inb v17 k0_hw3)) k0_pay3 Finset.univ (View.stores_vmem_bits_univ h_S16 rfl) (.inl rfl))
          let v20 : BitVec 32 := Scalar.addi v17 16#32
          let v21 : BitVec 32 := Scalar.subi v20 1#32
          let v22 : BitVec 32 := Scalar.divsi v21 16#32
          let v23 : BitVec 1 := Scalar.cmpi .sgt v21 0#32
          let v24 : BitVec 32 := Scalar.extui v23
          pure (⟨v17, k0_hw3, v21, 16#32, v22, v24⟩ : Σ' (v17 : BitVec 32) (_ : k0_chk3 v17) (_ : BitVec 32) (_ : BitVec 32) (_ : BitVec 32), BitVec 32))
        fun r => iprop(∃ m a hw, ⌜m ≤ 32768 ∧ r = chosenOut m hw ∧ Chosen row m a⌝ ∗ Any d L arg4 ∗ Held d L arg5 a ∗ Any d L arg7) := by
  iintro ⟨H4, ⟨%g5, H5⟩, H7⟩
  iapply (clear_bind (d := d) (L := L) (m := arg7) (show k0_t2_loop.trips = 256 by decide) ?_) $$ H7
  · exact fun t _ => zero_step t.val (congrFun (k0_off2_eq t) 0) (fun _ => rfl)
  iintro %_ H7
  iapply (for_bind (d := d) (fun t _ => iprop(Held d L arg4 row ∗ Held d L arg7 (cells (topKey row) t))) ?_) $$ [H4 H7]
  · exact fun t _ => top_step t.val (congrFun (k0_off3_eq t) 0) (ix := k0_pay4 (F := Bits) lanes) top_counter (fun _ => rfl)
      (P := fun v => k0_chk1 (k0_pay4 (F := Bits) lanes v)) (chk_key (t := t.val) (topKey_lanes row) (fun x => top_counter _ x)) (h1 := fun _ h => h)
  · isplitl [H4]
    · iexact H4
    · iapply (held_congr (fun j _ => (cells_zero (topKey row) j).symm))
      iexact H7
  rw [show k0_t3_loop.trips = 2048 by decide]
  iintro %_ ⟨H4, H7⟩
  iapply (for_bind (d := d) (fun t a => iprop(⌜Found (topKey row) 2048 t a⌝ ∗ Held d L arg7 (cells (topKey row) 2048))) ?_) $$ [H7]
  · rintro t ⟨a1, a2⟩
    have ht : t.val < 256 := Nat.lt_of_lt_of_eq t.isLt (by decide)
    have hh := found_step (d := d) (L := L) (m := arg7) (topKey_lanes row) (n := 2048) (by omega) t.val ht (off := k0_off4 t) (inb := k0_off4_inb t) (congrFun (k0_off4_eq t) 0) (hl := View.loadsAt_vmem h_S16) (a1, a2)
      (e := fun v => extractAt ![15] (k0_pay5 (F := Bits) v) inpos_S16_p15) (fun _ => rfl)
    -- the trip, its pair of carried words taken apart
    have e : k0_t4_body (F := Bits) L arg2 harg2 arg3 harg3 arg4 harg4 arg5 harg5 arg6 harg6 arg7 harg7 arg8 harg8 arg9 harg9 arg10 v113_r0 v113_r1 v1 lanes k0_pay1 k0_pay2 k0_pay3 0#32 1#32 k0_t1 t (a1, a2) = (.op (.load (e := .i32) arg7 (Rect.unit (s := S4096) (k0_off4 t) S16.size (k0_off4_inb t)).toLoadRect (View.loadsAt_vmem h_S16)) fun (v : IVec S16 32) =>
          .ret (Scalar.addi a1 (extractAt ![15] (k0_pay5 (F := Bits) v) inpos_S16_p15), Scalar.select (Scalar.andi (Scalar.cmpi .slt a1 8192#32) (Scalar.cmpi .sge (Scalar.addi a1 (extractAt ![15] (k0_pay5 (F := Bits) v) inpos_S16_p15)) 8192#32)) (Scf.iv 0#32 1#32 t) a2)) := rfl
    rw [e]
    exact hh
  · isplitr
    · ipureintro
      exact ⟨by simp [below], .inl (by simp [below])⟩
    · iexact H7
  rw [show k0_t4_loop.trips = 256 by decide]
  iintro %a ⟨%ha, H7⟩
  obtain ⟨a1, a2⟩ := a
  obtain ⟨-, h⟩ := ha
  rw [below_all (topKey_lanes row)] at h
  obtain ⟨b, hb, rfl, h8⟩ := h.resolve_left (by decide)
  iapply (for_bind (d := d) (fun t acc => Packing d L arg4 arg5 row b t acc) ?_) $$ [H4 H5]
  · exact fun t acc => pack_step hb t.val (Nat.lt_of_lt_of_eq t.isLt (by decide)) (congrFun (k0_off5_eq t) 0) acc
      (P := fun v => k0_chk2 (k0_pay8 (F := Bits) (BitVec.ofNat 32 b) acc v)) (fun _ h => chk_place h) (h1 := fun _ h => h)
  · isplitl [H4]
    · iexact H4
    isplitr
    · ipureintro; rfl
    iexists g5
    isplitr
    · ipureintro; intro j hj; omega
    · iexact H5
  rw [show k0_t5_loop.trips = 2048 by decide]
  iintro %acc ⟨H4, %hacc, %g, %hg, H5⟩
  have hm : Nat.count (Sel row b) 32768 ≤ 32768 := Nat.count_le _
  subst hacc
  iapply (twp_assume (chk3 hm))
  iapply (held_load (Nat.count (Sel row b) 32768) (off6_val hm)) $$ H5
  iintro H5
  iapply (held_store (Nat.count (Sel row b) 32768) (off6_val hm)) $$ H5
  iintro H5
  iapply twp_ret
  iexists (Nat.count (Sel row b) 32768)
  iexists _
  iexists (chk3 hm)
  isplitr; swap
  · isplitl [H4]
    · iexists _; iexact H4
    isplitl [H5]
    · iexact H5
    · iexists _; iexact H7
  ipureintro
  refine ⟨hm, rfl, b, rfl, ?_, ?_, ?_⟩
  · rw [sel_count]; exact h8
  · intro j hj hsel
    beta_reduce
    have := Nat.count_strict_mono hsel hj
    rw [if_neg (by omega)]
    exact hg j hj hsel
  · intro t h1 h2
    beta_reduce
    rw [if_pos ⟨h1, h2⟩]; rfl

end Parts

end Cert.Tile
-- ==== Proof.Copies.lean ====
/-
  The tile's two copies, each started and waited for at once: a row fetched into the tile's memory, and a row written back.
-/
module

public import proofs.«01_k».proof.Proof.Setup

@[expose] public section

noncomputable section

namespace Cert.Tile

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

variable {d : Dev nD} {L : grid0.Coords} {α : Type} {Q : α → sProp 𝕄}

/-- What the tile owes, whatever it has waited for. -/
abbrev Owed (d : Dev nD) (L : grid0.Coords) (O : CellTallies nD τ sig (HIx 1)) : sProp 𝕄 :=
  iprop(∃ W, owes (V d (cV L) (jV L)) O W)

/-- The evidence that the tile may wait on its own cells. -/
abbrev May (d : Dev nD) (L : grid0.Coords) (O : CellTallies nD τ sig (HIx 1)) : sProp 𝕄 :=
  Transfers.MayWaits (V d (cV L) (jV L)) (default : HIx 1) O

/-- A copy started and waited for: the destination takes what the source reads, and everything else is as before. -/
theorem copy_wait {sp sp' : Space} {s : Shape} {e : EltTy} (h0 : 0 < s.numel) {src : Memref sig .scVector sp s e} {dst : Memref sig .scVector sp' s e}
    {sem : DmaSem sig} {h1 h1' : src.view.WordExact} {h2 h2' : dst.view.WordExact}
    {ht : DmaTarget.Typed (nD := nD) sp (.dma sem) (.here (p := Proc.scVector (cV L) (jV L)) dst)}
    {O : CellTallies nD τ sig (HIx 1)} {q : PosShare TreeShare} {fs : Buf (Elt Bits) (src.view.loc (V d (cV L) (jV L)))}
    {fd : Buf (Elt Bits) (dst.view.loc (V d (cV L) (jV L)))} {k : PUnit → TileProg L α} :
    iprop(May d L O ∗ (src.view.loc (V d (cV L) (jV L)) ↦[src.view.set]{q} fs) ∗ (dst.view.loc (V d (cV L) (jV L)) ↦[dst.view.set]{fullShare} fd)
        ∗ semVal (V d (cV L) (jV L), .dma sem) 0 ∗ Owed d L O)
      ⊢ iprop(((src.view.loc (V d (cV L) (jV L)) ↦[src.view.set]{q} fs)
            ∗ (dst.view.loc (V d (cV L) (jV L)) ↦[dst.view.set]{fullShare} (dst.view.write (Elt Bits) fd (src.view.read (Elt Bits) fs) Finset.univ))
            ∗ semVal (V d (cV L) (jV L), .dma sem) 0 ∗ Owed d L O -∗ twp d L (k ⟨⟩) Q)
          -∗ twp d L (.op (.enqueueDma src (.here dst) (.dma sem) h1 h2 ht) fun _ => .op (.waitDma2 sem src dst h1' h2') k) Q) := by
  iintro ⟨Hmw, Hs, Hd, Hv, ⟨%W, HO⟩⟩ Hk
  iapply (Transfers.wp_dmaLocal countersEmb 𝒱₀ (V d (cV L) (jV L)) none (default : HIx 1) dst.view.dmaCredit rfl (dst.view.dmaCredit_pos h0)
    (Finset.Subset.refl _)) $$ [Hs Hd Hv]
  · isplitl [Hs]
    · iexact Hs
    isplitl [Hd] <;> iassumption
  iintro Hf
  iapply (Transfers.wp_waitLocalO countersEmb 𝒱₀ (V d (cV L) (jV L)) none (default : HIx 1) rfl) $$ [Hf HO Hmw]
  · isplitl [Hf]
    · iexact Hf
    isplitl [HO]
    · iexact HO
    · iapply (Transfers.MayWaits.elim _) $$ Hmw
  iintro ⟨⟨Hd, Hs⟩, Hv, HO⟩
  iapply Hk
  isplitl [Hs]
  · iexact Hs
  isplitl [Hd]
  · iexact Hd
  isplitl [Hv]
  · iexact Hv
  · iexists _; iexact HO

/-- A row fetched. -/
theorem fetch {n : ℕ} (hn : 0 < n) {e : EltTy} {src : Memref sig .scVector .hbm ⟨1, ![n]⟩ e} {dst : Memref sig .scVector .vmem ⟨1, ![n]⟩ e}
    {sem : DmaSem sig} {h1 h1' : src.view.WordExact} {h2 h2' : dst.view.WordExact}
    {ht : DmaTarget.Typed (nD := nD) .hbm (.dma sem) (.here (p := Proc.scVector (cV L) (jV L)) dst)}
    {O : CellTallies nD τ sig (HIx 1)} {q : PosShare TreeShare} {fs : Buf (Elt Bits) (src.view.loc (V d (cV L) (jV L)))} {g row : ℕ → Elt Bits e}
    (hr : ∀ j : (⟨1, ![n]⟩ : Shape).Idx, src.view.read (Elt Bits) fs j = row (j 0).val) {k : PUnit → TileProg L α} :
    iprop(May d L O ∗ (src.view.loc (V d (cV L) (jV L)) ↦[src.view.set]{q} fs) ∗ Held d L dst g ∗ semVal (V d (cV L) (jV L), .dma sem) 0 ∗ Owed d L O)
      ⊢ iprop(((src.view.loc (V d (cV L) (jV L)) ↦[src.view.set]{q} fs) ∗ Held d L dst row
            ∗ semVal (V d (cV L) (jV L), .dma sem) 0 ∗ Owed d L O -∗ twp d L (k ⟨⟩) Q)
          -∗ twp d L (.op (.enqueueDma src (.here dst) (.dma sem) h1 h2 ht) fun _ => .op (.waitDma2 sem src dst h1' h2') k) Q) := by
  unfold Held
  iintro ⟨Hmw, Hs, ⟨%fd, -, Hd⟩, Hv, HO⟩ Hk
  iapply (copy_wait (by rw [show (⟨1, ![n]⟩ : Shape).numel = n by simp [Shape.numel]]; exact hn)) $$ [Hmw Hs Hd Hv HO]
  · isplitl [Hmw]
    · iexact Hmw
    isplitl [Hs]
    · iexact Hs
    isplitl [Hd]
    · iexact Hd
    isplitl [Hv] <;> iassumption
  iintro ⟨Hs, Hd, Hv, HO⟩
  iapply Hk
  isplitl [Hs]
  · iexact Hs
  isplitl [Hd]
  · iexists _
    isplitr; swap
    · iexact Hd
    ipureintro
    intro j
    rw [View.read_write_univ]
    exact hr j
  isplitl [Hv] <;> iassumption

/-- A row written back. -/
theorem writeBack {n : ℕ} (hn : 0 < n) {e : EltTy} {src : Memref sig .scVector .vmem ⟨1, ![n]⟩ e} {dst : Memref sig .scVector .hbm ⟨1, ![n]⟩ e}
    {sem : DmaSem sig} {h1 h1' : src.view.WordExact} {h2 h2' : dst.view.WordExact}
    {ht : DmaTarget.Typed (nD := nD) .vmem (.dma sem) (.here (p := Proc.scVector (cV L) (jV L)) dst)}
    {O : CellTallies nD τ sig (HIx 1)} {g : ℕ → Elt Bits e} {fd : Buf (Elt Bits) (dst.view.loc (V d (cV L) (jV L)))} {k : PUnit → TileProg L α} :
    iprop(May d L O ∗ Held d L src g ∗ (dst.view.loc (V d (cV L) (jV L)) ↦[dst.view.set]{fullShare} fd) ∗ semVal (V d (cV L) (jV L), .dma sem) 0 ∗ Owed d L O)
      ⊢ iprop((Held d L src g ∗ (∃ f, ⌜∀ j : (⟨1, ![n]⟩ : Shape).Idx, dst.view.read (Elt Bits) f j = g (j 0).val⌝
              ∗ dst.view.loc (V d (cV L) (jV L)) ↦[dst.view.set]{fullShare} f)
            ∗ semVal (V d (cV L) (jV L), .dma sem) 0 ∗ Owed d L O -∗ twp d L (k ⟨⟩) Q)
          -∗ twp d L (.op (.enqueueDma src (.here dst) (.dma sem) h1 h2 ht) fun _ => .op (.waitDma2 sem src dst h1' h2') k) Q) := by
  unfold Held
  iintro ⟨Hmw, ⟨%fs, %hs, Hs⟩, Hd, Hv, HO⟩ Hk
  iapply (copy_wait (by rw [show (⟨1, ![n]⟩ : Shape).numel = n by simp [Shape.numel]]; exact hn)) $$ [Hmw Hs Hd Hv HO]
  · isplitl [Hmw]
    · iexact Hmw
    isplitl [Hs]
    · iexact Hs
    isplitl [Hd]
    · iexact Hd
    isplitl [Hv] <;> iassumption
  iintro ⟨Hs, Hd, Hv, HO⟩
  iapply Hk
  isplitl [Hs]
  · iexists fs
    isplitr
    · ipureintro; exact hs
    · iexact Hs
  isplitl [Hd]
  · iexists _
    isplitr; swap
    · iexact Hd
    ipureintro
    intro j
    rw [View.read_write_univ]
    exact hs j
  isplitl [Hv] <;> iassumption

end Cert.Tile
-- ==== Proof.Row.lean ====
/-
  One row: the words written back are the row's largest, in order; and the trip of the tile's loop that takes a row.
-/
module

public import proofs.«01_k».proof.Proof.Select
public import proofs.«01_k».proof.Proof.Copies

@[expose] public section

noncomputable section

namespace Cert.Tile

open Cert.Kernel Cert.Kernel.Gen Cert.Count Cert.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

/-! ## The values -/

/-- The top digit rises with the word. -/
theorem dig_top_mono {u v : BitVec 32} (h : u ≤ v) : dig 24 u ≤ dig 24 v := by
  have hu := u.isLt
  have hv := v.isLt
  have h' : u.toNat ≤ v.toNat := h
  unfold dig
  omega

/-- Four passes over the chosen words leave the row's keys in order, the first 8192 of them. -/
theorem kth_row {row : ℕ → BitVec 32} {m k : ℕ} {a0 a1 a2 a3 a4 : ℕ → BitVec 32} (hc : Chosen row m a0)
    (h1 : Placed 0 ((m + 15) / 16) a0 a1) (h2 : Placed 8 ((m + 15) / 16) a1 a2)
    (h3 : Placed 16 ((m + 15) / 16) a2 a3) (h4 : Placed 24 ((m + 15) / 16) a3 a4) (hk : k < 8192) :
    Kth (fun j => key (row j)) 32768 k (a4 k) := by
  obtain ⟨b, hm, h8, hp, hf⟩ := hc
  have hs := h4.sorted (h3.sorted (h2.sorted (h1.sorted (sortedLow_zero a0 _))))
  refine kth_of_selected (M := 16 * ((m + 15) / 16)) hm (by omega) (by omega) (fun p q => hs.le) (fun p _ => ?_) hp
    (fun t h h' => hf t h (by omega)) (fun i j _ _ hj hij => (dig_top_mono hij).trans hj)
  rw [h4.count p, h3.count p, h2.count p, h1.count p]

/-- The `k`-th largest of the 32768 words of a row, as the sort of the reference gives it. -/
def best (x : ℕ → BitVec 32) (k : ℕ) : BitVec 32 :=
  if h : k < 32768 then x (sortedFrom (fun a b : Fin 32768 => Bits.cmpfTotal .f32 .gt (x a) (x b) == 1#1) ⟨k, h⟩).val else 0#32

/-- The words written back are the row's largest. -/
theorem best_row {row : ℕ → BitVec 32} {m : ℕ} {a0 a1 a2 a3 a4 o : ℕ → BitVec 32} (hc : Chosen row m a0)
    (h1 : Placed 0 ((m + 15) / 16) a0 a1) (h2 : Placed 8 ((m + 15) / 16) a1 a2)
    (h3 : Placed 16 ((m + 15) / 16) a2 a3) (h4 : Placed 24 ((m + 15) / 16) a3 a4) (ho : ∀ k < 8192, o k = unkey (a4 k))
    {k : ℕ} (hk : k < 8192) : o k = best row k := by
  have hk' : k < 32768 := by omega
  have h := (kth_row hc h1 h2 h3 h4 hk).unique (kth_sorted (fun j : Fin 32768 => row j.val) ⟨k, hk'⟩ _ fun _ => rfl)
  rw [ho k hk, h, unkey_key, best, dif_pos hk']

/-! ## The trip -/

/-- A program's specification, used before what follows it. -/
theorem twp_then {d : Dev nD} {L : grid0.Coords} {α β : Type} {p : TileProg L α} {kk : α → TileProg L β} {H : sProp 𝕄} {R : α → sProp 𝕄} {Q : β → sProp 𝕄}
    (h : H ⊢ twp d L p R) : H ⊢ iprop((∀ a, R a -∗ twp d L (kk a) Q) -∗ twp d L (p >>= kk) Q) := by
  unfold twp at h ⊢
  rw [wp_bind]
  exact h.trans (wp_wand _ _ _)

section Trip

variable {d : Dev nD} {L : grid0.Coords}
variable {arg2 : Memref sig .scVector .hbm S2048x32768 .f32} {harg2 : arg2.IsWhole} {arg3 : Memref sig .scVector .hbm S2048x8192 .f32} {harg3 : arg3.IsWhole}
  {arg4 : Memref sig .scVector .vmem S32768 .f32} {harg4 : arg4.IsWhole} {arg5 : Memref sig .scVector .vmem S32784 .i32} {harg5 : arg5.IsWhole}
  {arg6 : Memref sig .scVector .vmem S32784 .i32} {harg6 : arg6.IsWhole} {arg7 : Memref sig .scVector .vmem S4096 .i32} {harg7 : arg7.IsWhole}
  {arg8 : Memref sig .scVector .vmem S4096 .i32} {harg8 : arg8.IsWhole} {arg9 : Memref sig .scVector .vmem S8192 .f32} {harg9 : arg9.IsWhole}
  {arg10 v113_r0 v113_r1 : DmaSems sig S_}

/-- Row `t` of the tile's share of the input. -/
abbrev inRow (arg2 : Memref sig .scVector .hbm S2048x32768 .f32) (L : grid0.Coords) (t : Fin k0_t1_loop.trips) : Memref sig .scVector .hbm S32768 .f32 :=
  (arg2.slice (Rect.unit (s := S2048x32768) (k0_off1 L t) S1x32768.size (k0_off1_inb L t)) (fun _ => rfl)).squeeze S32768 squeezes_S1x32768_S32768

/-- Row `t` of the tile's share of the output. -/
abbrev outRow (arg3 : Memref sig .scVector .hbm S2048x8192 .f32) (L : grid0.Coords) (t : Fin k0_t1_loop.trips) : Memref sig .scVector .hbm S8192 .f32 :=
  (arg3.slice (Rect.unit (s := S2048x8192) (k0_off17 L t) S1x8192.size (k0_off17_inb L t)) (fun _ => rfl)).squeeze S8192 squeezes_S1x8192_S8192

/-- What a trip works with and hands on: the tile's buffers, its two semaphores, and what it owes. -/
abbrev Works (d : Dev nD) (L : grid0.Coords) (arg4 : Memref sig .scVector .vmem S32768 .f32) (arg5 arg6 : Memref sig .scVector .vmem S32784 .i32)
    (arg7 arg8 : Memref sig .scVector .vmem S4096 .i32) (arg9 : Memref sig .scVector .vmem S8192 .f32) (s t : DmaSems sig S_)
    (O : CellTallies nD τ sig (HIx 1)) : sProp 𝕄 :=
  iprop(Any d L arg4 ∗ Any d L arg5 ∗ Any d L arg6 ∗ Any d L arg7 ∗ Any d L arg8 ∗ Any d L arg9
    ∗ semVal (V d (cV L) (jV L), .dma s.sem) 0 ∗ semVal (V d (cV L) (jV L), .dma t.sem) 0 ∗ Owed d L O)

/-- A trip: row `t` of the output takes the largest words of row `t` of the input. -/
theorem row_trip {row : ℕ → BitVec 32} {v1 : BitVec 32} {t : Fin k0_t1_loop.trips} {acc : BitVec 32} {O : CellTallies nD τ sig (HIx 1)} {q : PosShare TreeShare}
    {fs : Buf (Elt Bits) ((inRow arg2 L t).view.loc (V d (cV L) (jV L)))} {fd : Buf (Elt Bits) ((outRow arg3 L t).view.loc (V d (cV L) (jV L)))}
    (hr : ∀ j : S32768.Idx, (inRow arg2 L t).view.read (Elt Bits) fs j = row (j 0).val) :
    iprop(May d L O ∗ ((inRow arg2 L t).view.loc (V d (cV L) (jV L)) ↦[(inRow arg2 L t).view.set]{q} fs)
        ∗ ((outRow arg3 L t).view.loc (V d (cV L) (jV L)) ↦[(outRow arg3 L t).view.set]{fullShare} fd)
        ∗ Works d L arg4 arg5 arg6 arg7 arg8 arg9 v113_r0 v113_r1 O)
      ⊢ twp d L (k0_t1_body (F := Bits) L arg2 harg2 arg3 harg3 arg4 harg4 arg5 harg5 arg6 harg6 arg7 harg7 arg8 harg8 arg9 harg9 arg10 v113_r0 v113_r1 v1 lanes t acc)
        fun _ => iprop(((inRow arg2 L t).view.loc (V d (cV L) (jV L)) ↦[(inRow arg2 L t).view.set]{q} fs)
          ∗ (∃ f, ⌜∀ j : S8192.Idx, (outRow arg3 L t).view.read (Elt Bits) f j = best row (j 0).val⌝
              ∗ (outRow arg3 L t).view.loc (V d (cV L) (jV L)) ↦[(outRow arg3 L t).view.set]{fullShare} f)
          ∗ Works d L arg4 arg5 arg6 arg7 arg8 arg9 v113_r0 v113_r1 O) := by
  iintro ⟨#Hmw, Hi, Ho, ⟨%g4, H4⟩, H5, H6, H7, H8, ⟨%g9, H9⟩, Hs, Ht, HO⟩
  unfold k0_t1_body
  rw [k0_part1_eq_skeleton]
  unfold k0_part1_skel
  -- the row comes in
  iapply (fetch (d := d) (L := L) (n := 32768) (by norm_num) (src := inRow arg2 L t) (dst := arg4) (sem := v113_r0.sem) hr) $$ [Hi H4 Hs HO]
  · isplitr
    · iexact Hmw
    isplitl [Hi]
    · iexact Hi
    isplitl [H4]
    · iexact H4
    isplitl [Hs] <;> iassumption
  iintro ⟨Hi, H4, Hs, HO⟩
  -- the selection
  iapply (twp_then (select_spec (row := row) (v1 := v1) (k0_t1 := t) (harg2 := harg2) (harg3 := harg3) (harg4 := harg4) (harg5 := harg5) (harg6 := harg6)
    (harg7 := harg7) (harg8 := harg8) (harg9 := harg9) (arg10 := arg10) (v113_r0 := v113_r0) (v113_r1 := v113_r1))) $$ [H4 H5 H7]
  · isplitl [H4]
    · iexact H4
    isplitl [H5] <;> iassumption
  iintro %r ⟨%m, %a, %hw, %hc, H4, H5, H7⟩
  obtain ⟨hm, rfl, hc⟩ := hc
  -- the passes
  iapply (twp_then (part2_spec hm)) $$ [H5 H6 H7 H8]
  · isplitl [H5]
    · iexact H5
    isplitl [H6]
    · iexact H6
    isplitl [H7] <;> iassumption
  iintro %r ⟨%hr2, H5, H7, H8, ⟨%a1, %h1, H6⟩⟩
  subst hr2
  iapply (twp_then (part3_spec hm)) $$ [H5 H6 H7 H8]
  · isplitl [H5]
    · iexact H5
    isplitl [H6]
    · iexact H6
    isplitl [H7] <;> iassumption
  iintro %_ ⟨%a2, %h2, H5, H6, H7, H8⟩
  iapply (twp_then (part4_spec hm)) $$ [H5 H6 H7 H8 H9]
  · isplitl [H5]
    · iexact H5
    isplitl [H6]
    · iexact H6
    isplitl [H7]
    · iexact H7
    isplitl [H8]
    · iexact H8
    · iexists _; iexact H9
  iintro %_ ⟨%a3, %a4, %o, %h34, H5, H6, H7, H8, H9⟩
  obtain ⟨h3, h4, ho⟩ := h34
  -- the row goes out
  iapply (writeBack (d := d) (L := L) (n := 8192) (by norm_num) (src := arg9) (dst := outRow arg3 L t) (sem := v113_r1.sem) (O := O)) $$ [Ho H9 Ht HO]
  · isplitr
    · iexact Hmw
    isplitl [H9]
    · iexact H9
    isplitl [Ho]
    · iexact Ho
    isplitl [Ht] <;> iassumption
  iintro ⟨H9, ⟨%f, %hf, Ho⟩, Ht, HO⟩
  iapply twp_ret
  isplitl [Hi]
  · iexact Hi
  isplitl [Ho]
  · iexists f
    isplitr
    · ipureintro
      exact fun j => (hf j).trans (best_row hc h1 h2 h3 h4 ho (j 0).isLt)
    · iexact Ho
  isplitl [H4]
  · iexact H4
  isplitl [H5]
  · iexact H5
  isplitl [H6]
  · iexact H6
  isplitl [H7]
  · iexact H7
  isplitl [H8]
  · iexact H8
  isplitl [H9]
  · iexists _; iexact H9
  isplitl [Hs]
  · iexact Hs
  isplitl [Ht]
  · iexact Ht
  · iexact HO

end Trip

end Cert.Tile
-- ==== Proof.Tile.lean ====
/-
  A tile's task: its 64 rows of the input, each row's largest words into the same row of the output.
-/
module

public import proofs.«01_k».proof.Proof.Row

@[expose] public section

noncomputable section

namespace Cert.Tile

open Cert.Kernel Cert.Kernel.Gen Cert.Count Cert.Words

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

/-! ## The arrays and their rows -/

/-- The kernel's input and output, as locations of device `d`. -/
abbrev xLoc (d : Dev nD) : Loc nD τ sig := (SparseCore.T d).loc main_v0
abbrev oLoc (d : Dev nD) : Loc nD τ sig := (SparseCore.T d).loc main_v1

abbrev xM : Memref sig .scVector .hbm S2048x32768 .f32 := Memref.whole main_v0_scv
abbrev oM : Memref sig .scVector .hbm S2048x8192 .f32 := Memref.whole main_v1_scv
abbrev s0 : Memref sig .scVector .vmem S32768 .f32 := Memref.whole cc0_scratch0
abbrev s1 : Memref sig .scVector .vmem S32784 .i32 := Memref.whole cc0_scratch1
abbrev s2 : Memref sig .scVector .vmem S32784 .i32 := Memref.whole cc0_scratch2
abbrev s3 : Memref sig .scVector .vmem S4096 .i32 := Memref.whole cc0_scratch3
abbrev s4 : Memref sig .scVector .vmem S4096 .i32 := Memref.whole cc0_scratch4
abbrev s5 : Memref sig .scVector .vmem S8192 .f32 := Memref.whole cc0_scratch5

/-- The index of a rank-one buffer at a place. -/
def at1 {n : ℕ} (k : Fin n) : (⟨1, ![n]⟩ : Shape).Idx := fun a => ⟨k.val, by rw [Fin.eq_zero a]; exact k.isLt⟩

/-- Row `n` of the input, and of the output. -/
def rowsIn (n : ℕ) : Finset S2048x32768.Idx := Finset.univ.filter fun j => (j 0).val = n
def rowsOut (n : ℕ) : Finset S2048x8192.Idx := Finset.univ.filter fun j => (j 0).val = n

/-- The row a tile takes at its trip `t`. -/
abbrev rowNo (c i t : ℕ) : ℕ := 128 * i + 64 * c + t

variable (d : Dev nD) (L : grid0.Coords)

abbrev rowL (L : grid0.Coords) (t : Fin k0_t1_loop.trips) : ℕ := rowNo (L 0).val (L 1).val t.val

theorem emb_in (t : Fin k0_t1_loop.trips) (j : S32768.Idx) :
    (((inRow xM L t).view.emb j : S2048x32768.Idx) 0).val = rowL L t ∧ (((inRow xM L t).view.emb j : S2048x32768.Idx) 1).val = (j 0).val := by
  have e : ((inRow xM L t).view.emb j : S2048x32768.Idx)
      = (Rect.unit (s := S2048x32768) (k0_off1 L t) S1x32768.size (k0_off1_inb L t)).emb (Shape.reshapeEquiv squeezes_S1x32768_S32768.numel_eq j) := rfl
  have h0 : k0_off1 L t 0 = rowL L t := congrFun (k0_off1_eq L t) 0
  have h1 : k0_off1 L t 1 = 0 := congrFun (k0_off1_eq L t) 1
  rw [e, Shape.reshapeEquiv_cons_one (n := 1) (d := ![32768])]
  constructor
  · show k0_off1 L t 0 + 1 * 0 = _; omega
  · show k0_off1 L t 1 + 1 * (j 0).val = _; omega

theorem emb_out (t : Fin k0_t1_loop.trips) (j : S8192.Idx) :
    (((outRow oM L t).view.emb j : S2048x8192.Idx) 0).val = rowL L t ∧ (((outRow oM L t).view.emb j : S2048x8192.Idx) 1).val = (j 0).val := by
  have e : ((outRow oM L t).view.emb j : S2048x8192.Idx)
      = (Rect.unit (s := S2048x8192) (k0_off17 L t) S1x8192.size (k0_off17_inb L t)).emb (Shape.reshapeEquiv squeezes_S1x8192_S8192.numel_eq j) := rfl
  have h0 : k0_off17 L t 0 = rowL L t := congrFun (k0_off17_eq L t) 0
  have h1 : k0_off17 L t 1 = 0 := congrFun (k0_off17_eq L t) 1
  rw [e, Shape.reshapeEquiv_cons_one (n := 1) (d := ![8192])]
  constructor
  · show k0_off17 L t 0 + 1 * 0 = _; omega
  · show k0_off17 L t 1 + 1 * (j 0).val = _; omega

theorem set_in (t : Fin k0_t1_loop.trips) : (inRow xM L t).view.set = rowsIn (rowL L t) := by
  ext y
  constructor
  · intro h
    obtain ⟨j, -, rfl⟩ := Finset.mem_map.mp h
    exact Finset.mem_filter.mpr ⟨Finset.mem_univ _, (emb_in L t j).1⟩
  · intro h
    have h0 : ((y : S2048x32768.Idx) 0).val = rowL L t := (Finset.mem_filter.mp h).2
    refine Finset.mem_map.mpr ⟨at1 ((y : S2048x32768.Idx) 1), Finset.mem_univ _, ?_⟩
    refine funext fun a => Fin.ext ?_
    match a with
    | ⟨0, _⟩ => exact (emb_in L t _).1.trans h0.symm
    | ⟨1, _⟩ => exact (emb_in L t _).2

theorem set_out (t : Fin k0_t1_loop.trips) : (outRow oM L t).view.set = rowsOut (rowL L t) := by
  ext y
  constructor
  · intro h
    obtain ⟨j, -, rfl⟩ := Finset.mem_map.mp h
    exact Finset.mem_filter.mpr ⟨Finset.mem_univ _, (emb_out L t j).1⟩
  · intro h
    have h0 : ((y : S2048x8192.Idx) 0).val = rowL L t := (Finset.mem_filter.mp h).2
    refine Finset.mem_map.mpr ⟨at1 ((y : S2048x8192.Idx) 1), Finset.mem_univ _, ?_⟩
    refine funext fun a => Fin.ext ?_
    match a with
    | ⟨0, _⟩ => exact (emb_out L t _).1.trans h0.symm
    | ⟨1, _⟩ => exact (emb_out L t _).2

/-- Row `n` of the input's contents, as a sequence. -/
def xrow (X : S2048x32768.Idx → BitVec 32) (n j : ℕ) : BitVec 32 :=
  if h : n < 2048 ∧ j < 32768 then X (fun | ⟨0, _⟩ => ⟨n, h.1⟩ | ⟨1, _⟩ => ⟨j, h.2⟩) else 0#32

theorem xrow_idx (X : S2048x32768.Idx → BitVec 32) (y : S2048x32768.Idx) : xrow X (y 0).val (y 1).val = X y := by
  unfold xrow
  rw [dif_pos ⟨(y 0).isLt, (y 1).isLt⟩]
  exact congrArg X (funext fun a => match a with | ⟨0, _⟩ => rfl | ⟨1, _⟩ => rfl)

/-- What the kernel leaves of an input: each row's largest words, in order. -/
def kept (X : S2048x32768.Idx → BitVec 32) : S2048x8192.Idx → BitVec 32 := fun y => best (xrow X (y 0).val) (y 1).val

variable {d L} in
theorem read_in (X : Buf (Elt Bits) (xLoc d)) (t : Fin k0_t1_loop.trips) (j : S32768.Idx) :
    (inRow xM L t).view.read (Elt Bits) X j = xrow X (rowL L t) (j 0).val := by
  have h := xrow_idx X ((inRow xM L t).view.emb j)
  rw [(emb_in L t j).1, (emb_in L t j).2] at h
  exact h.symm

variable {d L} in
theorem of_read_out (X : Buf (Elt Bits) (xLoc d)) (t : Fin k0_t1_loop.trips) (f : Buf (Elt Bits) (oLoc d))
    (h : ∀ j : S8192.Idx, (outRow oM L t).view.read (Elt Bits) f j = best (xrow X (rowL L t)) (j 0).val) :
    ∀ y ∈ rowsOut (rowL L t), f y = kept X y := by
  intro y hy
  have h0 : ((y : S2048x8192.Idx) 0).val = rowL L t := (Finset.mem_filter.mp hy).2
  have e : (outRow oM L t).view.emb (at1 ((y : S2048x8192.Idx) 1)) = y := by
    refine funext fun a => Fin.ext ?_
    match a with
    | ⟨0, _⟩ => exact (emb_out L t _).1.trans h0.symm
    | ⟨1, _⟩ => exact (emb_out L t _).2
  have h' : f ((outRow oM L t).view.emb (at1 ((y : S2048x8192.Idx) 1))) = best (xrow X (rowL L t)) ((y : S2048x8192.Idx) 1).val :=
    h (at1 ((y : S2048x8192.Idx) 1))
  rw [e] at h'
  rw [h']
  unfold kept
  rw [h0]

/-! ## The rows of a tile -/

/-- The rows of the tile at `(c, i)`: its input's rows at `X` and its output's at `f`. -/
abbrev Part (d : Dev nD) (c i : ℕ) (X : Buf (Elt Bits) (xLoc d)) (f : Buf (Elt Bits) (oLoc d)) : sProp 𝕄 :=
  iprop((bigSep Finset.univ fun t : Fin k0_t1_loop.trips => xLoc d ↦[rowsIn (rowNo c i t.val)]{fullShare} X)
    ∗ bigSep Finset.univ fun t : Fin k0_t1_loop.trips => oLoc d ↦[rowsOut (rowNo c i t.val)]{fullShare} f)

/-- The output's rows, the first `k` of them done. -/
abbrev Done (d : Dev nD) (L : grid0.Coords) (X : Buf (Elt Bits) (xLoc d)) (f : Buf (Elt Bits) (oLoc d)) (k : ℕ) : sProp 𝕄 :=
  bigSep Finset.univ fun t : Fin k0_t1_loop.trips => oLoc d ↦[rowsOut (rowL L t)]{fullShare} (if t.val < k then (kept X : Buf (Elt Bits) (oLoc d)) else f)

variable {d L}

theorem done_zero (X : Buf (Elt Bits) (xLoc d)) (f : Buf (Elt Bits) (oLoc d)) :
    (bigSep Finset.univ fun t : Fin k0_t1_loop.trips => (oLoc d ↦[rowsOut (rowL L t)]{fullShare} f : sProp 𝕄)) = Done d L X f 0 :=
  bigSep_congr fun t _ => by rw [if_neg (Nat.not_lt_zero _)]

theorem done_all (X : Buf (Elt Bits) (xLoc d)) (f : Buf (Elt Bits) (oLoc d)) :
    Done d L X f k0_t1_loop.trips
      = bigSep Finset.univ fun t : Fin k0_t1_loop.trips => (oLoc d ↦[rowsOut (rowL L t)]{fullShare} (kept X : Buf (Elt Bits) (oLoc d)) : sProp 𝕄) :=
  bigSep_congr fun t _ => by rw [if_pos t.isLt]

/-- One more trip. -/
theorem trip_step {X : Buf (Elt Bits) (xLoc d)} {f : Buf (Elt Bits) (oLoc d)} {v1 : BitVec 32} {O : CellTallies nD τ sig (HIx 1)} {s u w : DmaSems sig S_}
    (t : Fin k0_t1_loop.trips) (acc : BitVec 32) :
    iprop(May d L O ∗ (bigSep Finset.univ fun t : Fin k0_t1_loop.trips => xLoc d ↦[rowsIn (rowL L t)]{fullShare} X) ∗ Done d L X f t.val
        ∗ Works d L s0 s1 s2 s3 s4 s5 s u O)
      ⊢ twp d L (k0_t1_body (F := Bits) L xM (Memref.isWhole_whole _) oM (Memref.isWhole_whole _) s0 (Memref.isWhole_whole _) s1 (Memref.isWhole_whole _)
          s2 (Memref.isWhole_whole _) s3 (Memref.isWhole_whole _) s4 (Memref.isWhole_whole _) s5 (Memref.isWhole_whole _) w s u v1 lanes t acc)
        fun _ => iprop(May d L O ∗ (bigSep Finset.univ fun t : Fin k0_t1_loop.trips => xLoc d ↦[rowsIn (rowL L t)]{fullShare} X) ∗ Done d L X f (t.val + 1)
          ∗ Works d L s0 s1 s2 s3 s4 s5 s u O) := by
  have hx : (xLoc d ↦[rowsIn (rowL L t)]{fullShare} X : sProp 𝕄)
      = (inRow xM L t).view.loc (V d (cV L) (jV L)) ↦[(inRow xM L t).view.set]{fullShare} X := by rw [set_in]
  have ho : ∀ g : Buf (Elt Bits) (oLoc d), (oLoc d ↦[rowsOut (rowL L t)]{fullShare} g : sProp 𝕄)
      = (outRow oM L t).view.loc (V d (cV L) (jV L)) ↦[(outRow oM L t).view.set]{fullShare} g := fun g => by rw [set_out]
  have hs := SparseCore.bigSep_erase' (Finset.mem_univ t) (Φ := fun t : Fin k0_t1_loop.trips => (xLoc d ↦[rowsIn (rowL L t)]{fullShare} X : sProp 𝕄))
  have hd : ∀ k, Done d L X f k = _ := fun k => SparseCore.bigSep_erase' (Finset.mem_univ t)
  rw [hs, hd, hd]
  rw [show (bigSep (Finset.univ.erase t) fun t' : Fin k0_t1_loop.trips =>
        (oLoc d ↦[rowsOut (rowL L t')]{fullShare} (if t'.val < t.val + 1 then (kept X : Buf (Elt Bits) (oLoc d)) else f) : sProp 𝕄))
      = bigSep (Finset.univ.erase t) fun t' : Fin k0_t1_loop.trips =>
        (oLoc d ↦[rowsOut (rowL L t')]{fullShare} (if t'.val < t.val then (kept X : Buf (Elt Bits) (oLoc d)) else f) : sProp 𝕄) from
    bigSep_congr fun t' ht' => by
      have hne : t'.val ≠ t.val := fun e => (Finset.mem_erase.mp ht').1 (Fin.ext e)
      by_cases h : t'.val < t.val
      · rw [if_pos h, if_pos (by omega)]
      · rw [if_neg h, if_neg (by omega)]]
  rw [if_neg (Nat.lt_irrefl _), if_pos (Nat.lt_succ_self _)]
  iintro ⟨#Hmw, ⟨Hx, Hxs⟩, ⟨Ho, Hos⟩, HW⟩
  iapply (wp_wand_r _ _ _)
  isplitl [Hx Ho HW]
  · iapply (row_trip (d := d) (L := L) (O := O) (q := fullShare) (read_in X t))
    isplitr
    · iexact Hmw
    isplitl [Hx]
    · iapply (Entails.of_eq hx); iexact Hx
    isplitl [Ho]
    · iapply (Entails.of_eq (ho f)); iexact Ho
    · iexact HW
  iintro %_ ⟨Hx, ⟨%g, %hg, Ho⟩, HW⟩
  isplitr
  · iexact Hmw
  isplitl [Hx Hxs]
  · isplitl [Hx]
    · iapply (Entails.of_eq hx.symm); iexact Hx
    · iexact Hxs
  isplitl [Ho Hos]
  · isplitl [Ho]
    · iapply (Entails.of_eq ((ho g).symm.trans (pointsTo_congr (of_read_out X t g hg)))); iexact Ho
    · iexact Hos
  · iexact HW

/-- The task: the tile's rows of the output at what the kernel leaves of the input. -/
theorem task {X : Buf (Elt Bits) (xLoc d)} {f : Buf (Elt Bits) (oLoc d)} {O : CellTallies nD τ sig (HIx 1)} {s u w : DmaSems sig S_} :
    iprop(May d L O ∗ Part d (L 0).val (L 1).val X f ∗ Works d L s0 s1 s2 s3 s4 s5 s u O)
      ⊢ twp d L (cc0__sc_body (F := Bits) L xM (Memref.isWhole_whole _) oM (Memref.isWhole_whole _) s0 (Memref.isWhole_whole _) s1 (Memref.isWhole_whole _)
          s2 (Memref.isWhole_whole _) s3 (Memref.isWhole_whole _) s4 (Memref.isWhole_whole _) s5 (Memref.isWhole_whole _) w s u)
        fun _ => iprop(Part d (L 0).val (L 1).val X (kept X) ∗ Works d L s0 s1 s2 s3 s4 s5 s u O) := by
  rw [cc0__sc_body_eq_skeleton]
  unfold cc0__sc_body_skel
  iintro ⟨Hmw, ⟨Hx, Ho⟩, HW⟩
  iapply (for_bind (d := d) (L := L) (fun k _ => iprop(May d L O ∗ (bigSep Finset.univ fun t : Fin k0_t1_loop.trips => xLoc d ↦[rowsIn (rowL L t)]{fullShare} X)
    ∗ Done d L X f k ∗ Works d L s0 s1 s2 s3 s4 s5 s u O)) (fun t acc => trip_step t acc)) $$ [Hmw Hx Ho HW]
  · isplitl [Hmw]
    · iexact Hmw
    isplitl [Hx]
    · iexact Hx
    isplitl [Ho]
    · iapply (Entails.of_eq (done_zero (d := d) (L := L) X f)); iexact Ho
    · iexact HW
  iintro %_ ⟨-, Hx, Ho, HW⟩
  iapply twp_ret
  isplitl [Hx Ho]
  · isplitl [Hx]
    · iexact Hx
    · iapply (Entails.of_eq (done_all (d := d) (L := L) X f)); iexact Ho
  · iexact HW

/-! ## The tile's own buffers and semaphores -/

/-- A whole buffer of the tile at some contents. -/
theorem any_whole {n : ℕ} {e : EltTy} {m : Memref sig .scVector .vmem ⟨1, ![n]⟩ e} (hm : m.view.set = Finset.univ) :
    (Any d L m : sProp 𝕄) = iprop(∃ f, m.view.loc (V d (cV L) (jV L)) ↦{fullShare} f) := by
  refine equiv_iff.mp ⟨?_, ?_⟩
  · show iprop(∃ g, Held d L m g) ⊢ _
    unfold Held
    rw [hm]
    iintro ⟨%g, %f, -, H⟩
    iexists f; iexact H
  · show _ ⊢ iprop(∃ g, Held d L m g)
    iintro ⟨%f, H⟩
    iexists (fun k => if h : k < n then m.view.read (Elt Bits) f (fun a => ⟨k, by rw [Fin.eq_zero a]; exact h⟩) else Classical.arbitrary _)
    unfold Held
    iexists f
    isplitr
    · ipureintro
      intro j
      beta_reduce
      rw [dif_pos (show (j 0).val < n from (j 0).isLt)]
      exact congrArg _ (idx_ext rfl)
    · rw [hm]; iexact H

/-- The two cells of the copies. -/
abbrev cIn (d : Dev nD) (L : grid0.Coords) : GSem nD τ sig := (V d (cV L) (jV L), .dma cc0_scoped0.sem)
abbrev cOut (d : Dev nD) (L : grid0.Coords) : GSem nD τ sig := (V d (cV L) (jV L), .dma cc0_scoped1.sem)

theorem ownSems0_V :
    (ownSems0 (V d (cV L) (jV L)) : sProp 𝕄)
      = iprop(semVal (cIn d L) 0 ∗ semVal (cOut d L) 0
          ∗ bigSep (((ownCells (V d (cV L) (jV L))).erase (cIn d L)).erase (cOut d L)) fun g => semVal g 0) := by
  unfold SparseCore.Cfg.ownSems0
  rw [SparseCore.bigSep_erase' ((mem_ownCells (g := cIn d L)).mpr ⟨rfl, by
      show (SemLoc.dma cc0_scoped0.sem : SemLoc sig).isScoped .scVector = true; decide⟩),
    SparseCore.bigSep_erase' (Finset.mem_erase.mpr ⟨by simp [cIn, cOut]; decide, (mem_ownCells (g := cOut d L)).mpr ⟨rfl, by
      show (SemLoc.dma cc0_scoped1.sem : SemLoc sig).isScoped .scVector = true; decide⟩⟩)]

/-- A buffer of the tile, taken out of a set of the tile's buffers. -/
theorem take_buf {s : Finset (DevRef τ sig)} (b : Ref sig .scVector) (hb : (Proc.scVector (cV L) (jV L)).devRef b ∈ s) :
    (bigSep s (fun r => iprop(∃ f, ((d, r) : Loc nD τ sig) ↦{fullShare} f)) : sProp 𝕄)
      = iprop((∃ f, (V d (cV L) (jV L)).loc b ↦{fullShare} f)
          ∗ bigSep (s.erase ((Proc.scVector (cV L) (jV L)).devRef b)) fun r => iprop(∃ f, ((d, r) : Loc nD τ sig) ↦{fullShare} f)) :=
  SparseCore.bigSep_erase' hb

/-- What is left of the tile's buffers after the six scratches. -/
abbrev otherRefs (L : grid0.Coords) : Finset (DevRef τ sig) :=
  ((((((ownRefs (τ := τ) (sig := sig) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)).erase
    ((Proc.scVector (cV L) (jV L)).devRef cc0_scratch5)

theorem ref_ne {a b : Ref sig .scVector} (h : a ≠ b) : (Proc.scVector (cV L) (jV L)).devRef a ≠ (Proc.scVector (cV L) (jV L)).devRef b :=
  fun e => h (Proc.devRef_injective _ e)

theorem ownBufs_V :
    (ownBufs (V d (cV L) (jV L)) : sProp 𝕄)
      = iprop(Any d L s0 ∗ Any d L s1 ∗ Any d L s2 ∗ Any d L s3 ∗ Any d L s4 ∗ Any d L s5
          ∗ bigSep (otherRefs L) fun r => iprop(∃ f, ((d, r) : Loc nD τ sig) ↦{fullShare} f)) := by
  rw [any_whole (m := s0) (View.set_whole _), any_whole (m := s1) (View.set_whole _), any_whole (m := s2) (View.set_whole _),
    any_whole (m := s3) (View.set_whole _), any_whole (m := s4) (View.set_whole _), any_whole (m := s5) (View.set_whole _)]
  unfold SparseCore.Cfg.ownBufs
  have o0 := SparseCore.Cfg.mem_ownRefs_of_owner (p := Proc.scVector (cV L) (jV L)) (b := (Proc.scVector (cV L) (jV L)).devRef cc0_scratch0) rfl
  have o1 := Finset.mem_erase.mpr ⟨ref_ne (L := L) (show cc0_scratch1 ≠ cc0_scratch0 by decide), SparseCore.Cfg.mem_ownRefs_of_owner (p := Proc.scVector (cV L) (jV L)) (b := (Proc.scVector (cV L) (jV L)).devRef cc0_scratch1) rfl⟩
  have o2 := Finset.mem_erase.mpr ⟨ref_ne (L := L) (show cc0_scratch2 ≠ cc0_scratch1 by decide), Finset.mem_erase.mpr ⟨ref_ne (L := L) (show cc0_scratch2 ≠ cc0_scratch0 by decide), SparseCore.Cfg.mem_ownRefs_of_owner (p := Proc.scVector (cV L) (jV L)) (b := (Proc.scVector (cV L) (jV L)).devRef cc0_scratch2) rfl⟩⟩
  have o3 := Finset.mem_erase.mpr ⟨ref_ne (L := L) (show cc0_scratch3 ≠ cc0_scratch2 by decide), Finset.mem_erase.mpr ⟨ref_ne (L := L) (show cc0_scratch3 ≠ cc0_scratch1 by decide), Finset.mem_erase.mpr ⟨ref_ne (L := L) (show cc0_scratch3 ≠ cc0_scratch0 by decide), SparseCore.Cfg.mem_ownRefs_of_owner (p := Proc.scVector (cV L) (jV L)) (b := (Proc.scVector (cV L) (jV L)).devRef cc0_scratch3) rfl⟩⟩⟩
  have o4 := Finset.mem_erase.mpr ⟨ref_ne (L := L) (show cc0_scratch4 ≠ cc0_scratch3 by decide), Finset.mem_erase.mpr ⟨ref_ne (L := L) (show cc0_scratch4 ≠ cc0_scratch2 by decide), Finset.mem_erase.mpr ⟨ref_ne (L := L) (show cc0_scratch4 ≠ cc0_scratch1 by decide), Finset.mem_erase.mpr ⟨ref_ne (L := L) (show cc0_scratch4 ≠ cc0_scratch0 by decide), SparseCore.Cfg.mem_ownRefs_of_owner (p := Proc.scVector (cV L) (jV L)) (b := (Proc.scVector (cV L) (jV L)).devRef cc0_scratch4) rfl⟩⟩⟩⟩
  have o5 := Finset.mem_erase.mpr ⟨ref_ne (L := L) (show cc0_scratch5 ≠ cc0_scratch4 by decide), Finset.mem_erase.mpr ⟨ref_ne (L := L) (show cc0_scratch5 ≠ cc0_scratch3 by decide), Finset.mem_erase.mpr ⟨ref_ne (L := L) (show cc0_scratch5 ≠ cc0_scratch2 by decide), Finset.mem_erase.mpr ⟨ref_ne (L := L) (show cc0_scratch5 ≠ cc0_scratch1 by decide), Finset.mem_erase.mpr ⟨ref_ne (L := L) (show cc0_scratch5 ≠ cc0_scratch0 by decide), SparseCore.Cfg.mem_ownRefs_of_owner (p := Proc.scVector (cV L) (jV L)) (b := (Proc.scVector (cV L) (jV L)).devRef cc0_scratch5) rfl⟩⟩⟩⟩⟩
  refine (take_buf (d := d) (L := L) cc0_scratch0 o0).trans ?_
  rw [take_buf (d := d) (L := L) cc0_scratch1 o1, take_buf (d := d) (L := L) cc0_scratch2 o2, take_buf (d := d) (L := L) cc0_scratch3 o3,
    take_buf (d := d) (L := L) cc0_scratch4 o4, take_buf (d := d) (L := L) cc0_scratch5 o5]

/-- The task as the launch states it. -/
theorem tile_body (hF : K.Facts) (X : Buf (Elt Bits) (xLoc d)) (f : Buf (Elt Bits) (oLoc d)) (O : CellTallies nD τ sig (HIx 1)) (W : Waits sig (HIx 1))
    (hO : ∀ g, O g none = 0) :
    iprop(levAts K.L K.lev ∗ emp ∗ Part d (L 0).val (L 1).val X f
        ∗ scopedBufs (V d (cV L) (jV L)) ∗ scopedSems0 (V d (cV L) (jV L)) ∗ owes (V d (cV L) (jV L)) O W)
      ⊢ twp d L (cc0__sc_body (F := Bits) L xM (Memref.isWhole_whole _) oM (Memref.isWhole_whole _) s0 (Memref.isWhole_whole _) s1 (Memref.isWhole_whole _)
          s2 (Memref.isWhole_whole _) s3 (Memref.isWhole_whole _) s4 (Memref.isWhole_whole _) s5 (Memref.isWhole_whole _) cc0_scratch6 cc0_scoped0 cc0_scoped1)
        fun _ => iprop(Part d (L 0).val (L 1).val X (kept X)
          ∗ scopedBufs (V d (cV L) (jV L)) ∗ scopedSems0 (V d (cV L) (jV L))
          ∗ ∃ W', ⌜∀ p ∈ W', p ∈ W ∨ p.2 = none ∨ p.2 = some (0 : Fin 1)⌝ ∗ owes (V d (cV L) (jV L)) O W') := by
  rw [K.scopedBufs_V hF d (cV L) (jV L), SparseCore.Cfg.scopedSems0_V (Val := Elt Bits) d (cV L) (jV L), ownSems0_V, ownBufs_V]
  iintro ⟨#Hlv, -, HP, ⟨H0, H1, H2, H3, H4, H5, Hbufs⟩, ⟨Hs, Hu, Hsems⟩, HO⟩
  ihave Hmw := (show levAts K.L K.lev ⊢ May d L O from K.mayWaits_none (thr := V d (cV L) (jV L)) hO) $$ Hlv
  iapply (wp_wand_r _ _ _)
  isplitl [Hmw HP H0 H1 H2 H3 H4 H5 Hs Hu HO]
  · iapply (task (d := d) (L := L) (X := X) (f := f) (O := O))
    isplitl [Hmw]
    · iexact Hmw
    isplitl [HP]
    · iexact HP
    isplitl [H0]
    · iexact H0
    isplitl [H1]
    · iexact H1
    isplitl [H2]
    · iexact H2
    isplitl [H3]
    · iexact H3
    isplitl [H4]
    · iexact H4
    isplitl [H5]
    · iexact H5
    isplitl [Hs]
    · iexact Hs
    isplitl [Hu]
    · iexact Hu
    · iexists W; iexact HO
  iintro %_ ⟨HP, H0, H1, H2, H3, H4, H5, Hs, Hu, ⟨%W', HO⟩⟩
  isplitl [HP]
  · iexact HP
  isplitl [H0 H1 H2 H3 H4 H5 Hbufs]
  · isplitl [H0]
    · iexact H0
    isplitl [H1]
    · iexact H1
    isplitl [H2]
    · iexact H2
    isplitl [H3]
    · iexact H3
    isplitl [H4]
    · iexact H4
    isplitl [H5]
    · iexact H5
    · iexact Hbufs
  isplitl [Hs Hu Hsems]
  · isplitl [Hs]
    · iexact Hs
    isplitl [Hu]
    · iexact Hu
    · iexact Hsems
  iexists W'
  isplitr
  swap
  · iexact HO
  ipureintro
  intro p _
  rcases p.2 with _ | q
  · exact .inr (.inl rfl)
  · exact .inr (.inr (congrArg some (Subsingleton.elim q 0)))

end Cert.Tile
-- ==== Proof.Launch.lean ====
/-
  The launch: what the call takes and brings back, the arrays dealt to the tiles by rows, the TensorCore's program around
  the call, and the whole program's run.
-/
module

public import proofs.«01_k».proof.Proof.Tile

@[expose] public section

noncomputable section

namespace Cert.Tile

open Cert.Kernel Cert.Kernel.Gen Cert.Count Cert.Words

open Idealize.ShloMosaic
open Idealize.ShloMosaic.SparseCore (S V)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

/-! ## The launch semaphores, and the handshakes' algebra -/

theorem facts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt Bits) ℕ UU ℕ) := embL

theorem nCore_zero : K.nCore 0 = 2 := rfl
theorem nSub_zero : K.nSub 0 = 16 := rfl

/-! ## The arrays by rows -/

theorem trips_eq : k0_t1_loop.trips = 64 := by decide

/-- The place of a row among the tiles is unique. -/
theorem rowNo_inj {c i t c' i' t' : ℕ} (hc : c < 2) (ht : t < 64) (hc' : c' < 2) (ht' : t' < 64) (h : rowNo c i t = rowNo c' i' t') :
    c = c' ∧ i = i' ∧ t = t' := by
  unfold rowNo at h
  omega

/-- An array of 2048 rows is its rows, tile by tile. -/
theorem whole_rows {ℓ : Loc nD τ sig} (row : Idx ℓ → ℕ) (hr : ∀ y, row y < 2048) (f : Buf (Elt Bits) ℓ) :
    (ℓ ↦{fullShare} f : sProp 𝕄)
      = bigSep Finset.univ fun c : Fin 2 => bigSep Finset.univ fun i : Fin 16 => bigSep Finset.univ fun t : Fin k0_t1_loop.trips =>
          ℓ ↦[Finset.univ.filter fun y => row y = rowNo c.val i.val t.val]{fullShare} f := by
  classical
  have htr : ∀ t : Fin k0_t1_loop.trips, t.val < 64 := fun t => trips_eq ▸ t.isLt
  have ht : ∀ (c : Fin 2) (i : Fin 16), (bigSep Finset.univ fun t : Fin k0_t1_loop.trips =>
        (ℓ ↦[Finset.univ.filter fun y => row y = rowNo c.val i.val t.val]{fullShare} f : sProp 𝕄))
      = ℓ ↦[Finset.univ.biUnion fun t : Fin k0_t1_loop.trips => Finset.univ.filter fun y => row y = rowNo c.val i.val t.val]{fullShare} f := by
    intro c i
    refine (pointsTo_biUnion _ _ fun t _ t' _ hne => Finset.disjoint_left.mpr fun y h h' => hne (Fin.ext ?_)).symm
    have e := (Finset.mem_filter.mp h).2.symm.trans (Finset.mem_filter.mp h').2
    exact (rowNo_inj c.isLt (htr t) c.isLt (htr t') e).2.2
  have hi : ∀ c : Fin 2, (bigSep Finset.univ fun i : Fin 16 => bigSep Finset.univ fun t : Fin k0_t1_loop.trips =>
        (ℓ ↦[Finset.univ.filter fun y => row y = rowNo c.val i.val t.val]{fullShare} f : sProp 𝕄))
      = ℓ ↦[Finset.univ.biUnion fun i : Fin 16 => Finset.univ.biUnion fun t : Fin k0_t1_loop.trips =>
          Finset.univ.filter fun y => row y = rowNo c.val i.val t.val]{fullShare} f := by
    intro c
    refine (bigSep_congr fun i _ => ht c i).trans ?_
    refine (pointsTo_biUnion _ _ fun i _ i' _ hne => Finset.disjoint_left.mpr fun y h h' => hne (Fin.ext ?_)).symm
    obtain ⟨t, -, h⟩ := Finset.mem_biUnion.mp h
    obtain ⟨t', -, h'⟩ := Finset.mem_biUnion.mp h'
    have e := (Finset.mem_filter.mp h).2.symm.trans (Finset.mem_filter.mp h').2
    exact (rowNo_inj c.isLt (htr t) c.isLt (htr t') e).2.1
  refine Eq.trans ?_ (bigSep_congr fun c _ => hi c).symm
  refine Eq.trans ?_ (pointsTo_biUnion _ _ fun c _ c' _ hne => Finset.disjoint_left.mpr fun y h h' => hne (Fin.ext ?_))
  · congr 1
    symm
    refine Finset.eq_univ_iff_forall.mpr fun y => ?_
    have hy := hr y
    refine Finset.mem_biUnion.mpr ⟨⟨row y / 64 % 2, by omega⟩, Finset.mem_univ _, Finset.mem_biUnion.mpr ⟨⟨row y / 128, by omega⟩, Finset.mem_univ _,
      Finset.mem_biUnion.mpr ⟨⟨row y % 64, by rw [trips_eq]; omega⟩, Finset.mem_univ _, Finset.mem_filter.mpr ⟨Finset.mem_univ _, ?_⟩⟩⟩⟩
    show row y = 128 * (row y / 128) + 64 * (row y / 64 % 2) + row y % 64
    omega
  · obtain ⟨i, -, h⟩ := Finset.mem_biUnion.mp h
    obtain ⟨i', -, h'⟩ := Finset.mem_biUnion.mp h'
    obtain ⟨t, -, h⟩ := Finset.mem_biUnion.mp h
    obtain ⟨t', -, h'⟩ := Finset.mem_biUnion.mp h'
    have e := (Finset.mem_filter.mp h).2.symm.trans (Finset.mem_filter.mp h').2
    exact (rowNo_inj c.isLt (htr t) c'.isLt (htr t') e).1

/-- The two arrays whole are the tiles' parts. -/
theorem parts_eq (d : Dev nD) (X : Buf (Elt Bits) (xLoc d)) (f : Buf (Elt Bits) (oLoc d)) :
    (bigSep Finset.univ fun c : Fin 2 => bigSep Finset.univ fun i : Fin 16 => Part d c.val i.val X f)
      = (iprop((xLoc d ↦{fullShare} X) ∗ oLoc d ↦{fullShare} f) : sProp 𝕄) := by
  rw [whole_rows (ℓ := xLoc d) (fun y => ((y : S2048x32768.Idx) 0).val) (fun y => ((y : S2048x32768.Idx) 0).isLt) X,
    whole_rows (ℓ := oLoc d) (fun y => ((y : S2048x8192.Idx) 0).val) (fun y => ((y : S2048x8192.Idx) 0).isLt) f, ← bigSep_sep']
  refine bigSep_congr fun c _ => ?_
  rw [← bigSep_sep']
  rfl

/-! ## What the call takes and brings back -/

variable (m : (ℓ : Loc nD τ sig) → Buf (Elt Bits) ℓ) (ρ : Dev nD → PrngReg)

/-- The program's argument and result, as locations of device `d`. -/
abbrev aLoc (d : Dev nD) : Loc nD τ sig := (SparseCore.T d).loc main_arg0
abbrev rLoc (d : Dev nD) : Loc nD τ sig := (SparseCore.T d).loc main_v2

/-- The argument as rows: the call's input. -/
def X0 (d : Dev nD) : Buf (Elt Bits) (xLoc d) :=
  shapeCast S2048x32768 (m (aLoc d) : S64x32x32768.Idx → BitVec 32) shapeCasts_S64x32x32768_S2048x32768

/-- The call's output, reshaped: the program's result. -/
def R0 (d : Dev nD) : Buf (Elt Bits) (rLoc d) :=
  shapeCast S64x32x8192 (kept (X0 m d)) shapeCasts_S2048x8192_S64x32x8192

/-- Each SparseCore takes its tiles' rows of the two arrays, each tile its own, and brings them back with the output's rows
    done; nothing of the kernel's own is dealt, and no tile owes anything but its end. -/
def P : K.Pay (nD := nD) (Val := Elt Bits) (Name := ℕ) (U := UU) where
  st := fun q d c => match q with
    | 0 => bigSep Finset.univ fun i : Fin (K.nSub 0) => Part d c.val i.val (X0 m d) (m (oLoc d))
  dn := fun q d c => match q with
    | 0 => bigSep Finset.univ fun i : Fin (K.nSub 0) => Part d c.val i.val (X0 m d) (kept (X0 m d))
  go := fun q d c i => match q with | 0 => Part d c.val i.val (X0 m d) (m (oLoc d))
  td := fun q d c i => match q with | 0 => Part d c.val i.val (X0 m d) (kept (X0 m d))
  x := fun _ _ => iprop(emp)

instance P_storable : (P m).IsStorable where
  st q d c := match q with
    | 0 => (inferInstance : BI.Storable (upEmb : UEmb _ 𝕄) (bigSep Finset.univ fun i : Fin (K.nSub 0) => Part d c.val i.val (X0 m d) (m (oLoc d))))
  dn q d c := match q with
    | 0 => (inferInstance : BI.Storable (upEmb : UEmb _ 𝕄) (bigSep Finset.univ fun i : Fin (K.nSub 0) => Part d c.val i.val (X0 m d) (kept (X0 m d))))
  go q d c i := match q with
    | 0 => (inferInstance : BI.Storable (upEmb : UEmb _ 𝕄) (Part d c.val i.val (X0 m d) (m (oLoc d))))
  td q d c i := match q with
    | 0 => (inferInstance : BI.Storable (upEmb : UEmb _ 𝕄) (Part d c.val i.val (X0 m d) (kept (X0 m d))))

/-- A tile's coordinates from its SparseCore's and its own number. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := Bits) (.scVector c s) 0 ()
      = SparseCore.onTile hcore0 hsub0 (fun c s => cc0__sc_body (coordsV c s) xM (Memref.isWhole_whole _) oM (Memref.isWhole_whole _)
          s0 (Memref.isWhole_whole _) s1 (Memref.isWhole_whole _) s2 (Memref.isWhole_whole _) s3 (Memref.isWhole_whole _)
          s4 (Memref.isWhole_whole _) s5 (Memref.isWhole_whole _) cc0_scratch6 cc0_scoped0 cc0_scoped1) ⟨⟩ c s := rfl

/-- Each tile's task does what the call asks of it. -/
theorem tileObl (hF : K.Facts) : K.TileObl D 𝒱 (P m) v₀ 0 := by
  intro d c i O W hO _ _
  simp only [show (P m).ox = fun _ _ => 0 from rfl, add_zero]
  have hci : (K.core 0 c).val < grid0.bound 0 ∧ (K.sub 0 i).val < grid0.bound 1 := ⟨c.isLt, i.isLt⟩
  change _ ⊢ wp _ _ _ (Pipeline.liftProg (defs₀ (F := Bits) (.scVector (K.core 0 c) (K.sub 0 i)) 0 ())) _
  refine BI.Entails.trans ?_ (Pipeline.wp_liftProg D (Pipeline.defs_kernel pcfgs defs₀) 𝒱₀ _ Set.univ none _ _)
  rw [defs₀_vector]; simp only [SparseCore.onTile, hci, and_self, ↓reduceDIte]
  exact tile_body (d := d) (L := coordsV ⟨_, hci.1⟩ ⟨_, hci.2⟩) hF (X0 m d) (m (oLoc d)) O W hO

/-- What is handed over and what comes back unchanged. -/
theorem pass_on (A B : sProp 𝕄) : A ⊢ |={Set.univ}=> iprop(A ∗ (B -∗ B)) := by
  iintro H; imodintro
  isplitl [H]
  · iexact H
  · iintro H; iexact H

theorem st_eq (d : Dev nD) (c : Fin (K.nCore 0)) : (P m).st 0 d c = bigSep Finset.univ fun i : Fin (K.nSub 0) => (P m).go 0 d c i := rfl
theorem dn_eq (d : Dev nD) (c : Fin (K.nCore 0)) : (P m).dn 0 d c = bigSep Finset.univ fun i : Fin (K.nSub 0) => (P m).td 0 d c i := rfl

/-- A SparseCore's rows are its tiles' rows. -/
theorem vecSplit : K.VecSplit' (P m) 0 := by
  intro d c
  rw [st_eq, dn_eq]
  exact pass_on _ _

/-- The launch element: the handshakes' rounds. -/
def u₀ : UU := (initOf K.hsCells K.hsToks, 1)

theorem bigSep_none {I : Type} (s : Finset I) : (bigSep s fun _ => iprop(emp)) = (iprop(emp) : sProp 𝕄) := bigSep_emp_const s

theorem hu₀ : (ownU u₀ : sProp 𝕄)
    ⊢ |={Set.univ}=> iprop(BI.own (EH (initOf K.hsCells K.hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf K.hsCells K.hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P m).x q thr) = bigSep Finset.univ fun _ => iprop(emp) from
    bigSep_congr fun _ _ => bigSep_univ_of_subsingleton (0 : Fin 1), bigSep_none]
  iempintro

/-! ## The TensorCore's program -/

abbrev a' : DevRef τ sig := Proc.devRef .tc main_arg0
abbrev x' : DevRef τ sig := Proc.devRef .tc main_v0
abbrev o' : DevRef τ sig := Proc.devRef .tc main_v1
abbrev r' : DevRef τ sig := Proc.devRef .tc main_v2

abbrev opIn : HloOp τ sig (Elt Bits) := StableHlo.reshape main_arg0 main_v0 (rfl : (.f32 : EltTy) = .f32) shapeCasts_S64x32x32768_S2048x32768
abbrev opOut : HloOp τ sig (Elt Bits) := StableHlo.reshape main_v1 main_v2 (rfl : (.f32 : EltTy) = .f32) shapeCasts_S2048x8192_S64x32x8192

/-- The four arrays. -/
abbrev S4 : Finset (DevRef τ sig) := {a', x', o', r'}

theorem hIn : opIn.bufs ⊆ S4 := show ({a', x'} : Finset (DevRef τ sig)) ⊆ S4 by decide
theorem hOut : opOut.bufs ⊆ S4 := show ({o', r'} : Finset (DevRef τ sig)) ⊆ S4 by decide

theorem held_S4 (d : Dev nD) (W : Valuation τ sig (Elt Bits)) :
    (held (SparseCore.T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt Bits) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at launch, at the call, and after it. -/
def V0 (d : Dev nD) : Valuation τ sig (Elt Bits) := fun b => m (d, b)
def V1 (d : Dev nD) : Valuation τ sig (Elt Bits) := opIn.result (V0 m d)
def V2 (d : Dev nD) : Valuation τ sig (Elt Bits) := Function.update (V1 m d) o' (kept (X0 m d))
def V3 (d : Dev nD) : Valuation τ sig (Elt Bits) := opOut.result (V2 m d)

theorem unscoped_held (d : Dev nD) : (unscopedBufs d (fun b => m ((SparseCore.T d).loc b)) : sProp 𝕄) = held (SparseCore.T d) S4 (V0 m d) := by
  rw [unscopedBufs_eq, held_S4]; rfl

theorem V1_a (d : Dev nD) : V1 m d a' = m (aLoc d) := opIn.result_of_not_mem _ (show a' ∉ ({x'} : Finset (DevRef τ sig)) by decide)
theorem V1_x (d : Dev nD) : V1 m d x' = X0 m d := StableHlo.reshape_result _ _ _ _ _ _ _
theorem V1_o (d : Dev nD) : V1 m d o' = m (oLoc d) := opIn.result_of_not_mem _ (show o' ∉ ({x'} : Finset (DevRef τ sig)) by decide)
theorem V2_a (d : Dev nD) : V2 m d a' = m (aLoc d) := (Function.update_of_ne (show a' ≠ o' by decide) _ _).trans (V1_a m d)
theorem V2_x (d : Dev nD) : V2 m d x' = X0 m d := (Function.update_of_ne (show x' ≠ o' by decide) _ _).trans (V1_x m d)
theorem V2_o (d : Dev nD) : V2 m d o' = kept (X0 m d) := Function.update_self _ _ _
theorem V2_r (d : Dev nD) : V2 m d r' = V1 m d r' := Function.update_of_ne (show r' ≠ o' by decide) _ _
theorem V3_a (d : Dev nD) : V3 m d a' = m (aLoc d) :=
  (opOut.result_of_not_mem _ (show a' ∉ ({r'} : Finset (DevRef τ sig)) by decide)).trans (V2_a m d)
theorem V3_r (d : Dev nD) : V3 m d r' = R0 m d :=
  (StableHlo.reshape_result _ _ _ _ _ _ _).trans (by rw [V2_o]; rfl)

theorem held_V1 (d : Dev nD) :
    (held (SparseCore.T d) S4 (opIn.result (V0 m d)) : sProp 𝕄)
      = iprop((aLoc d ↦{fullShare} m (aLoc d)) ∗ (xLoc d ↦{fullShare} X0 m d) ∗ (oLoc d ↦{fullShare} m (oLoc d)) ∗ rLoc d ↦{fullShare} V1 m d r') := by
  show held (SparseCore.T d) S4 (V1 m d) = _
  rw [held_S4, V1_a, V1_x, V1_o]
theorem held_V3 (d : Dev nD) :
    (held (SparseCore.T d) S4 (opOut.result (V2 m d)) : sProp 𝕄)
      = iprop((aLoc d ↦{fullShare} m (aLoc d)) ∗ (xLoc d ↦{fullShare} V3 m d x') ∗ (oLoc d ↦{fullShare} V3 m d o') ∗ rLoc d ↦{fullShare} R0 m d) := by
  show held (SparseCore.T d) S4 (V3 m d) = _
  rw [held_S4, V3_a, V3_r]

/-- What the call takes for the two SparseCores, and what it hands back. -/
theorem st0_eq (d : Dev nD) :
    (bigSep Finset.univ fun c : Fin (K.nCore 0) => (P m).st 0 d c) = iprop((xLoc d ↦{fullShare} X0 m d) ∗ oLoc d ↦{fullShare} m (oLoc d)) :=
  parts_eq d (X0 m d) (m (oLoc d))
theorem dn0_eq (d : Dev nD) :
    (bigSep Finset.univ fun c : Fin (K.nCore 0) => (P m).dn 0 d c) = iprop((xLoc d ↦{fullShare} X0 m d) ∗ oLoc d ↦{fullShare} kept (X0 m d)) :=
  parts_eq d (X0 m d) (kept (X0 m d))

/-- What the program leaves: its argument as it was, its result at the rows' largest words. -/
abbrev FIN (d : Dev nD) : sProp 𝕄 := iprop((aLoc d ↦{fullShare} m (aLoc d)) ∗ rLoc d ↦{fullShare} R0 m d)

/-- The program on a device's TensorCore: the argument laid out as rows, the call, the output laid out as the result. -/
theorem hmain (κ : GSem nD τ sig → ℕ) (d : Dev nD) :
    iprop(K.ctx EH (P m) κ ∗ K.tcSt EH d 0 ∗ K.tcRes m ρ d ∗ emp)
      ⊢ wp frame (wpE (K.defs D) 𝒱 (SparseCore.T d) none) Set.univ (main d)
          fun _ => iprop(K.tcSt EH d 1 ∗ FIN m d ∗ K.tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  ihave Hh := (Entails.of_eq (held_V1 m d)) $$ Hheld
  icases Hh with ⟨Ha, Hx, Ho, Hr⟩
  iapply (K.wp_run D 𝒱 (EH := EH) (P := P m) κ d 0) $$ [Hst Ha Hx Ho Hr Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_V3 m d)) $$ Hheld
  icases Hh with ⟨Ha, -, -, Hr⟩
  rw [wp_ret]; imodintro; imodintro
  isplitl [Hst]; · iexact Hst
  isplitr [Hb Hts]
  · isplitl [Ha]; · iexact Ha
    iexact Hr
  isplitl [Hb] <;> iassumption

/-- What the claims read of a device's final state. -/
def fq (d : Dev nD) (s' : Phys nD τ sig (Elt Bits)) : Prop := s'.mem.mem (rLoc d) = R0 m d ∧ s'.mem.mem (aLoc d) = m (aLoc d)

theorem hfin (d : Dev nD) (s' : Phys nD τ sig (Elt Bits)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := R0 m d)) $$ [HSI Hr]
  · isplitl [HSI] <;> iassumption
  icases H with %hr
  ipureintro; exact ⟨funext fun i => hr i (Finset.mem_univ i), funext fun i => ha i (Finset.mem_univ i)⟩

/-! ## The program's run -/

/-- What every run ends with: the result at the rows' largest words, the argument as it was, every semaphore at zero. -/
def QC : PUnit × MemSt nD τ sig (Elt Bits) → Prop :=
  fun r => (∀ c : Dev nD, r.2.mem (rLoc c) = R0 m c ∧ r.2.mem (aLoc c) = m (aLoc c)) ∧ r.2.sem = fun _ => 0

theorem run_main : θ_run (Cert.Kernel.defs (F := Bits)) (Cert.Kernel.threads (F := Bits)) ⟨m, fun _ => 0, ρ⟩ (QC m) :=
  SparseCore.Cfg.θ_run_sc_quiescent (K := K) (D := D) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) u₀ (sep_elim_left.trans (hu₀ m)) (hmain m ρ) (fq m) (hfin m) (QC m) (fun _ h hz => ⟨h, hz⟩)

end Cert.Tile
-- ==== Proof.Ref.lean ====
/-
  The reference's run, and its result: each row's largest words in order, which is what the kernel leaves of the rows.
-/
module

public import proofs.«01_k».proof.Reference
public import proofs.«01_k».proof.Proof.Gen.Reference
public import Idealize.ShloMosaic.Lib.StableHlo.Run
public import proofs.«01_k».proof.Proof.Launch

@[expose] public section

noncomputable section

namespace Cert.Ref

open Cert.Reference Cert.Reference.Gen
open Idealize.ShloMosaic Idealize.ShloMosaic.TcCoe Idealize.ShloMosaic.StableHlo Idealize.SL.Sem
open Cert.Tile (best xrow kept)

/-! ## The run -/

/-- The words of the result, and their places, as the reference computes them of its argument. -/
abbrev topWords (x : S64x32x32768.Idx → BitVec 32) : S64x32x8192.Idx → BitVec 32 :=
  (Host.topK S64x32x8192 2 (FloatOps.cmpfTotal (F := Bits) (φ := .f32) .gt) x sliceFits_S64x32x32768_S64x32x8192).1
abbrev topPlaces (x : S64x32x32768.Idx → BitVec 32) : S64x32x8192.Idx → BitVec 32 :=
  (Host.topK S64x32x8192 2 (FloatOps.cmpfTotal (F := Bits) (φ := .f32) .gt) x sliceFits_S64x32x32768_S64x32x8192).2

abbrev ops : List (HloOp τ sig (Elt Bits)) :=
  [ unary main_arg0 main_values (topWords : (⟨S64x32x32768, .f32⟩ : BufTy).Contents (Elt Bits) → (⟨S64x32x8192, .f32⟩ : BufTy).Contents (Elt Bits)),
    unary main_arg0 main_indices (topPlaces : (⟨S64x32x32768, .f32⟩ : BufTy).Contents (Elt Bits) → (⟨S64x32x8192, .i32⟩ : BufTy).Contents (Elt Bits)) ]

theorem main_eq (c : Dev nD) : main (F := Bits) c = seq ops := by
  simp only [main, seq]

theorem arg0_eq (V : Valuation τ sig (Elt Bits)) : after ops V (main_arg0 : DevRef τ sig) = V (main_arg0 : DevRef τ sig) := by
  simp only [after_cons, after_nil]
  rw [unary_result_ne (h := show main_arg0 ≠ main_indices by decide), unary_result_ne (h := show main_arg0 ≠ main_values by decide)]

theorem values_eq (V : Valuation τ sig (Elt Bits)) : after ops V (main_values : DevRef τ sig) = topWords (V (main_arg0 : DevRef τ sig)) := by
  simp only [after_cons, after_nil]
  rw [unary_result_ne (h := show main_values ≠ main_indices by decide)]
  exact unary_result _ _ _ _ _ _

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Bits))).Forall fun op => op.bufs ⊆ tcRefs τ sig := ⟨unary_bufs_sub .., unary_bufs_sub ..⟩

/-- Every run ends with the result at the largest words and the argument as it was. -/
theorem run_main (m : (ℓ : Loc nD τ sig) → Buf (Elt Bits) ℓ) (ρ : Dev nD → PrngReg) :
    θ_run defs (onTc (τ := τ) (main (F := Bits))) ⟨m, fun _ => 0, ρ⟩ fun r =>
      ∀ c : Dev nD, r.2.mem ((c.tc : Thread nD τ).loc main_values) = topWords (m ((c.tc : Thread nD τ).loc main_arg0))
        ∧ r.2.mem ((c.tc : Thread nD τ).loc main_arg0) = m ((c.tc : Thread nD τ).loc main_arg0) :=
  (θ_run defs _ _).mono (fun _ h c => ⟨(h c main_values).trans (values_eq _), (h c main_arg0).trans (arg0_eq _)⟩)
    (run_seq scopedRefs_eq scopedSems_eq defs main (fun _ => ops) main_eq (fun _ => ops_sub) m ρ)

/-! ## The result by rows -/

/-- The argument laid out as 2048 rows, and rows of the output laid out as the result. -/
abbrev asRows (x : S64x32x32768.Idx → BitVec 32) : Cert.Kernel.S2048x32768.Idx → BitVec 32 :=
  shapeCast Cert.Kernel.S2048x32768 (x : Cert.Kernel.S64x32x32768.Idx → BitVec 32) Cert.Kernel.Facts₀.shapeCasts_S64x32x32768_S2048x32768
abbrev asResult (o : Cert.Kernel.S2048x8192.Idx → BitVec 32) : S64x32x8192.Idx → BitVec 32 :=
  shapeCast Cert.Kernel.S64x32x8192 o Cert.Kernel.Facts₀.shapeCasts_S2048x8192_S64x32x8192

/-- Place `j` of row `(b, h)` of the argument. -/
def at3 (b : Fin 64) (h : Fin 32) (j : Fin 32768) : S64x32x32768.Idx
  | ⟨0, _⟩ => b
  | ⟨1, _⟩ => h
  | ⟨2, _⟩ => j

/-- Row `32 b + h` of the rows is row `(b, h)` of the argument. -/
theorem row_of (x : S64x32x32768.Idx → BitVec 32) (b : Fin 64) (h : Fin 32) (j : Fin 32768) :
    xrow (asRows x) (32 * b.val + h.val) j.val = x (at3 b h j) := by
  have hb := b.isLt
  have hh := h.isLt
  unfold xrow
  rw [dif_pos ⟨by omega, j.isLt⟩]
  refine congrArg x (Shape.reshapeEquiv_eq_of_rowMajor _ ?_)
  rw [Shape.rowMajor_val_three, Shape.rowMajor_val_two]
  show (b.val * 32 + h.val) * 32768 + j.val = (32 * b.val + h.val) * 32768 + j.val
  omega

/-- The index of the output's rows that an index of the result is laid out from. -/
theorem result_at (o : ℕ → ℕ → BitVec 32) (y : S64x32x8192.Idx) :
    asResult (fun z => o (z 0).val (z 1).val) y = o (32 * (y 0).val + (y 1).val) (y 2).val := by
  have h0 : (y 0).val < 64 := (y 0).isLt
  have h1 : (y 1).val < 32 := (y 1).isLt
  let z : Cert.Kernel.S2048x8192.Idx := fun
    | ⟨0, _⟩ => (⟨32 * (y 0).val + (y 1).val, by omega⟩ : Fin 2048)
    | ⟨1, _⟩ => (y 2 : Fin 8192)
  have hz : Shape.reshapeEquiv (s := Cert.Kernel.S2048x8192) (s' := Cert.Kernel.S64x32x8192) Cert.Kernel.Facts₀.shapeCasts_S2048x8192_S64x32x8192 y = z := by
    refine Shape.reshapeEquiv_eq_of_rowMajor _ ?_
    rw [Shape.rowMajor_val_three, Shape.rowMajor_val_two]
    show (32 * (y 0).val + (y 1).val) * 8192 + (y 2).val = ((y 0).val * 32 + (y 1).val) * 8192 + (y 2).val
    omega
  show (fun z : Cert.Kernel.S2048x8192.Idx => o (z 0).val (z 1).val) (Shape.reshapeEquiv (s := Cert.Kernel.S2048x8192) (s' := Cert.Kernel.S64x32x8192)
    Cert.Kernel.Facts₀.shapeCasts_S2048x8192_S64x32x8192 y) = _
  rw [hz]

/-- The index of the argument that index `y` of the result sorts along. -/
def wide (y : S64x32x8192.Idx) : S64x32x32768.Idx :=
  fun a => ⟨0 + (y (a.cast sliceFits_S64x32x32768_S64x32x8192.1.symm)).val,
    Nat.lt_of_lt_of_le (Nat.add_lt_add_left (y _).isLt _) (sliceFits_S64x32x32768_S64x32x8192.2 a)⟩

theorem wide_along (y : S64x32x8192.Idx) (k : Fin 32768) : (wide y).along (2 : Fin 3) k = at3 (y 0) (y 1) k := by
  funext a
  match a with
  | ⟨0, _⟩ => exact (Function.update_of_ne (show (0 : Fin 3) ≠ 2 by decide) _ _).trans (Fin.ext (Nat.zero_add _))
  | ⟨1, _⟩ => exact (Function.update_of_ne (show (1 : Fin 3) ≠ 2 by decide) _ _).trans (Fin.ext (Nat.zero_add _))
  | ⟨2, _⟩ => exact Function.update_self _ _ _

/-- The reference's words at an index: the row's words at the sort's position. -/
theorem topWords_at (x : S64x32x32768.Idx → BitVec 32) (y : S64x32x8192.Idx) (hy : (y 2).val < 32768) :
    topWords x y = x (at3 (y 0) (y 1) (sortedFrom (fun k k' : Fin 32768 =>
      Bits.cmpfTotal .f32 .gt (x (at3 (y 0) (y 1) k)) (x (at3 (y 0) (y 1) k')) == 1#1) ⟨(y 2).val, hy⟩)) := by
  have hk : (wide y 2 : Fin 32768) = ⟨(y 2).val, hy⟩ := Fin.ext (Nat.zero_add _)
  refine Eq.trans (b := x ((wide y).along (2 : Fin 3) (sortedFrom (fun k k' : Fin 32768 =>
      Bits.cmpfTotal .f32 .gt (x ((wide y).along (2 : Fin 3) k)) (x ((wide y).along (2 : Fin 3) k')) == 1#1) (wide y 2)))) rfl ?_
  refine (congrArg x (wide_along y _)).trans ?_
  simp only [wide_along, hk]
  rfl

/-- The reference's result is what the kernel's rows, laid out as the result, hold. -/
theorem topWords_eq (x : S64x32x32768.Idx → BitVec 32) : topWords x = asResult (kept (asRows x)) := by
  funext y
  have h2 : (y 2).val < 8192 := (y 2).isLt
  have hy : (y 2).val < 32768 := by omega
  refine Eq.trans ?_ (result_at (fun n k => best (xrow (asRows x) n) k) y).symm
  rw [topWords_at x y hy]
  unfold Cert.Tile.best
  rw [dif_pos hy, row_of x (y 0) (y 1)]
  simp only [row_of x (y 0) (y 1)]

end Cert.Ref
-- ==== Proof.lean ====
/-
  The claims: the kernel's and the reference's runs leave the argument as it was and every semaphore at zero, and from equal
  arguments they end with equal results.
-/
module

public import proofs.«01_k».proof.Defs
public import proofs.«01_k».proof.Proof.Gen.Kernel
public import proofs.«01_k».proof.Proof.Gen.Reference
public import proofs.«01_k».proof.Proof.Launch
public import proofs.«01_k».proof.Proof.Ref

@[expose] public section

noncomputable section

namespace Cert.Proof

open Idealize.ShloMosaic Idealize.SL.Sem

/-- The kernel's frame. -/
theorem frame_kernel : Cert.quiescent_Kernel := fun m g _ =>
  (θ_run Cert.Kernel.defs _ _).mono (fun _ h => ⟨fun c => (h.1 c).2, h.2⟩) (Cert.Tile.run_main m g)

/-- The reference's frame; it declares no semaphore. -/
theorem frame_reference : Cert.quiescent_Reference := fun m g _ =>
  (θ_run Cert.Reference.defs _ _).mono (fun r h => ⟨fun c => (h c).2, sem_eq_zero_of_no_sems (by decide) r.2⟩) (Cert.Ref.run_main m g)

/-- From equal arguments, equal results, word for word: the largest words of each row in order. -/
theorem bitexact : Cert.bitexact_Kernel_Reference := by
  intro m g m' g' _ hagree
  refine ⟨fun c => Cert.Tile.R0 m c, (θ_run Cert.Kernel.defs _ _).mono (fun _ h c => h.1 c) (Cert.Tile.run_main m g), ?_⟩
  refine (θ_run Cert.Reference.defs _ _).mono (fun _ h c => ⟨(h c).1.trans ?_, (h c).2⟩) (Cert.Ref.run_main m' g')
  exact (congrArg Cert.Ref.topWords (hagree c)).trans (Cert.Ref.topWords_eq _)

theorem claim : Cert.Claim :=
  ⟨Cert.Kernel.Gen.facts, Cert.Reference.Gen.facts, frame_kernel, frame_reference, bitexact⟩

end Cert.Proof

end
